-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x20000x3 : Shape := ⟨3, ![4, 20000, 3]⟩
abbrev S4x20000x7 : Shape := ⟨3, ![4, 20000, 7]⟩
abbrev S4x3x20000 : Shape := ⟨3, ![4, 3, 20000]⟩
abbrev S4x1x20000 : Shape := ⟨3, ![4, 1, 20000]⟩
abbrev S4x20000 : Shape := ⟨2, ![4, 20000]⟩
abbrev S4x1024 : Shape := ⟨2, ![4, 1024]⟩
abbrev S4x20000x1 : Shape := ⟨3, ![4, 20000, 1]⟩
abbrev S4x20000x8 : Shape := ⟨3, ![4, 20000, 8]⟩
abbrev S4x1x1024 : Shape := ⟨3, ![4, 1, 1024]⟩
abbrev S4x256x7 : Shape := ⟨3, ![4, 256, 7]⟩
abbrev S4x256x1 : Shape := ⟨3, ![4, 256, 1]⟩
abbrev S4x256 : Shape := ⟨2, ![4, 256]⟩
abbrev S1x3x20000 : Shape := ⟨3, ![1, 3, 20000]⟩
abbrev S1x1x20000 : Shape := ⟨3, ![1, 1, 20000]⟩
abbrev S3x20000 : Shape := ⟨2, ![3, 20000]⟩
abbrev S1x20000 : Shape := ⟨2, ![1, 20000]⟩
abbrev S1x20000x8 : Shape := ⟨3, ![1, 20000, 8]⟩
abbrev S1x1x1024 : Shape := ⟨3, ![1, 1, 1024]⟩
abbrev S1x256x7 : Shape := ⟨3, ![1, 256, 7]⟩
abbrev S1x256x1 : Shape := ⟨3, ![1, 256, 1]⟩
abbrev S1024x8 : Shape := ⟨2, ![1024, 8]⟩
abbrev S1024x1024 : Shape := ⟨2, ![1024, 1024]⟩
abbrev S1x1x1 : Shape := ⟨3, ![1, 1, 1]⟩
abbrev S1x1x8 : Shape := ⟨3, ![1, 1, 8]⟩
abbrev S1x8 : Shape := ⟨2, ![1, 8]⟩
abbrev S1024x1 : Shape := ⟨2, ![1024, 1]⟩
abbrev S128x1024 : Shape := ⟨2, ![128, 1024]⟩
abbrev S1x1024 : Shape := ⟨2, ![1, 1024]⟩
abbrev S128x1 : Shape := ⟨2, ![128, 1]⟩
abbrev S1024 : Shape := ⟨1, ![1024]⟩
abbrev S1 : Shape := ⟨1, ![1]⟩
abbrev S128 : Shape := ⟨1, ![128]⟩
abbrev S128x8 : Shape := ⟨2, ![128, 8]⟩
abbrev S128x7 : Shape := ⟨2, ![128, 7]⟩
abbrev S1x128x7 : Shape := ⟨3, ![1, 128, 7]⟩
abbrev S1x128x1 : Shape := ⟨3, ![1, 128, 1]⟩

abbrev nBuf : Space → Nat
  | .hbm => 18
  | .vmem => 18
  | .smem => 2
  | _ => 0

abbrev bufTy : (tb : Table) → Fin (tcTables nBuf tb) → BufTy
  | .hbm, ⟨0, _⟩ => ⟨S4x20000x3, .f32⟩
  | .hbm, ⟨1, _⟩ => ⟨S4x20000x7, .f32⟩
  | .hbm, ⟨2, _⟩ => ⟨S4x3x20000, .f32⟩
  | .hbm, ⟨3, _⟩ => ⟨S4x1x20000, .f32⟩
  | .hbm, ⟨4, _⟩ => ⟨S4x1x20000, .f32⟩
  | .hbm, ⟨5, _⟩ => ⟨S4x20000, .f32⟩
  | .hbm, ⟨6, _⟩ => ⟨S4x20000, .f32⟩
  | .hbm, ⟨7, _⟩ => ⟨S4x1024, .f32⟩
  | .hbm, ⟨8, _⟩ => ⟨S4x1024, .i32⟩
  | .hbm, ⟨9, _⟩ => ⟨S4x20000x1, .f32⟩
  | .hbm, ⟨10, _⟩ => ⟨S4x20000x8, .f32⟩
  | .hbm, ⟨11, _⟩ => ⟨S4x1x1024, .i32⟩
  | .hbm, ⟨12, _⟩ => ⟨S4x1x1024, .f32⟩
  | .hbm, ⟨13, _⟩ => ⟨S4x256x7, .f32⟩
  | .hbm, ⟨14, _⟩ => ⟨S4x256x1, .f32⟩
  | .hbm, ⟨15, _⟩ => ⟨S4x256x1, .i32⟩
  | .hbm, ⟨16, _⟩ => ⟨S4x256, .f32⟩
  | .hbm, ⟨17, _⟩ => ⟨S4x256, .i32⟩
  | .local _ .vmem, ⟨0, _⟩ => ⟨S1x3x20000, .f32⟩
  | .local _ .vmem, ⟨1, _⟩ => ⟨S1x3x20000, .f32⟩
  | .local _ .vmem, ⟨2, _⟩ => ⟨S1x1x20000, .f32⟩
  | .local _ .vmem, ⟨3, _⟩ => ⟨S1x1x20000, .f32⟩
  | .local _ .vmem, ⟨4, _⟩ => ⟨S1x1x20000, .f32⟩
  | .local _ .vmem, ⟨5, _⟩ => ⟨S1x1x20000, .f32⟩
  | .local _ .vmem, ⟨6, _⟩ => ⟨S1x20000x8, .f32⟩
  | .local _ .vmem, ⟨7, _⟩ => ⟨S1x20000x8, .f32⟩
  | .local _ .vmem, ⟨8, _⟩ => ⟨S1x1x1024, .f32⟩
  | .local _ .vmem, ⟨9, _⟩ => ⟨S1x1x1024, .f32⟩
  | .local _ .vmem, ⟨10, _⟩ => ⟨S1x256x7, .f32⟩
  | .local _ .vmem, ⟨11, _⟩ => ⟨S1x256x7, .f32⟩
  | .local _ .vmem, ⟨12, _⟩ => ⟨S1x256x1, .f32⟩
  | .local _ .vmem, ⟨13, _⟩ => ⟨S1x256x1, .f32⟩
  | .local _ .vmem, ⟨14, _⟩ => ⟨S1x256x1, .i32⟩
  | .local _ .vmem, ⟨15, _⟩ => ⟨S1x256x1, .i32⟩
  | .local _ .vmem, ⟨16, _⟩ => ⟨S1024x8, .f32⟩
  | .local _ .vmem, ⟨17, _⟩ => ⟨S1024x1024, .f32⟩
  | .local _ .smem, ⟨0, _⟩ => ⟨S1x1x1024, .i32⟩
  | .local _ .smem, ⟨1, _⟩ => ⟨S1x1x1024, .i32⟩
  | _, _ => ⟨S4x20000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_v2 : Ref sig .tc := ⟨.hbm, 5, rfl⟩
abbrev main_call0_v3 : Ref sig .tc := ⟨.hbm, 6, rfl⟩
abbrev main_call0_values : Ref sig .tc := ⟨.hbm, 7, rfl⟩
abbrev main_call0_indices : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_v0_0 : Ref sig .tc := ⟨.hbm, 13, rfl⟩
abbrev main_call0_v8_1 : Ref sig .tc := ⟨.hbm, 14, rfl⟩
abbrev main_call0_v8_2 : Ref sig .tc := ⟨.hbm, 15, rfl⟩
abbrev main_v0_1 : Ref sig .tc := ⟨.hbm, 16, rfl⟩
abbrev main_v0_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc1_stg1_0 : Ref sig .tc := ⟨.smem, 0, rfl⟩
abbrev cc1_stg1_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x20000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x20000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

@[reducible] def k1_t1_loop : Scf.Loop 32 :=
  let c0_i32 : BitVec 32 := 0#32
  let c1024_i32 : BitVec 32 := 1024#32
  let v0 : BitVec 32 := Scalar.addi c0_i32 c1024_i32
  let c1_i32 : BitVec 32 := 1#32
  ⟨c0_i32, v0, c1_i32⟩
def k1_off1 (k1_t1 : Fin k1_t1_loop.trips) : Fin 3 → Nat :=
  let c0_271 : Index := 0#32
  let c0_272 : Index := 0#32
  let c0_i32 : BitVec 32 := 0#32
  let c1_i32 : BitVec 32 := 1#32
  let arg9 : BitVec 32 := Scf.iv c0_i32 c1_i32 k1_t1
  let v1138 : Index := Scalar.indexCast arg9
  ![0, 0, v1138.toNat]
def k1_off2 (v1139 : BitVec 32) : Fin 3 → Nat :=
  let c0_273 : Index := 0#32
  let v1140 : Index := Scalar.indexCast v1139
  let c0_274 : Index := 0#32
  ![0, v1140.toNat, 0]

def k1_chk1 (v1139 : BitVec 32) : Prop :=
  (∀ a, (k1_off2 v1139) a + S1x1x8.size a ≤ S1x20000x8.size a)
theorem k1_off2_inb : ∀ (v1139 : BitVec 32) (k1_hw1 : k1_chk1 v1139), ∀ a, (k1_off2 v1139) a + S1x1x8.size a ≤ S1x20000x8.size a := fun v1139 k1_hw1 => k1_hw1

def k1_off3 (k1_t1 : Fin k1_t1_loop.trips) : Fin 2 → Nat :=
  let c0_i32 : BitVec 32 := 0#32
  let c1_i32 : BitVec 32 := 1#32
  let arg9 : BitVec 32 := Scf.iv c0_i32 c1_i32 k1_t1
  let v1143 : Index := Scalar.indexCast arg9
  let c0_275 : Index := 0#32
  ![v1143.toNat, 0]
@[reducible] def k1_t2_loop : Scf.Loop 32 :=
  let c0_i32_192 : BitVec 32 := 0#32
  let c1024_i32_193 : BitVec 32 := 1024#32
  let v863 : BitVec 32 := Scalar.addi c0_i32_192 c1024_i32_193
  let c1_i32_194 : BitVec 32 := 1#32
  ⟨c0_i32_192, v863, c1_i32_194⟩
def k1_off4 (k1_t2 : Fin k1_t2_loop.trips) : Fin 2 → Nat :=
  let c0_i32_192 : BitVec 32 := 0#32
  let c1_i32_194 : BitVec 32 := 1#32
  let arg9 : BitVec 32 := Scf.iv c0_i32_192 c1_i32_194 k1_t2
  let v1138 : Index := Scalar.indexCast arg9
  let c0_271 : Index := 0#32
  ![v1138.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x20000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .smem S1x1x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S4x20000x3 : Shape := ⟨3, ![4, 20000, 3]⟩
abbrev S4x20000x7 : Shape := ⟨3, ![4, 20000, 7]⟩
abbrev S_ : Shape := ⟨0, ![]⟩
abbrev S4x20000 : Shape := ⟨2, ![4, 20000]⟩
abbrev S4x1024 : Shape := ⟨2, ![4, 1024]⟩
abbrev S4x1024x1 : Shape := ⟨3, ![4, 1024, 1]⟩
abbrev S1 : Shape := ⟨1, ![1]⟩
abbrev S1x1x1 : Shape := ⟨3, ![1, 1, 1]⟩
abbrev S4x1024x7 : Shape := ⟨3, ![4, 1024, 7]⟩
abbrev S4x1x1024 : Shape := ⟨3, ![4, 1, 1024]⟩
abbrev S4x1024x1024 : Shape := ⟨3, ![4, 1024, 1024]⟩
abbrev S1024 : Shape := ⟨1, ![1024]⟩
abbrev S4x1 : Shape := ⟨2, ![4, 1]⟩
abbrev S1x1024 : Shape := ⟨2, ![1, 1024]⟩
abbrev S4x256 : Shape := ⟨2, ![4, 256]⟩
abbrev S4x256x1 : Shape := ⟨3, ![4, 256, 1]⟩
abbrev S4x256x7 : Shape := ⟨3, ![4, 256, 7]⟩

abbrev nBuf : Space → Nat
  | .hbm => 246
  | .vmem => 0
  | .smem => 0
  | _ => 0

abbrev hbmTy0_0 (i : Nat) : BufTy := match i % 128 with
  | 0 => ⟨S4x20000x3, .f32⟩
  | 1 => ⟨S4x20000x7, .f32⟩
  | 2 => ⟨S_, .f32⟩
  | 3 => ⟨S4x20000, .f32⟩
  | 4 => ⟨S4x20000x3, .i32⟩
  | 5 => ⟨S_, .f32⟩
  | 6 => ⟨S_, .i32⟩
  | 7 => ⟨S4x20000, .f32⟩
  | 8 => ⟨S4x20000, .i32⟩
  | 9 => ⟨S_, .i32⟩
  | 10 => ⟨S4x20000, .i32⟩
  | 11 => ⟨S4x20000, .i32⟩
  | 12 => ⟨S_, .f32⟩
  | 13 => ⟨S4x20000, .f32⟩
  | 14 => ⟨S4x20000, .i1⟩
  | 15 => ⟨S_, .f32⟩
  | 16 => ⟨S_, .f32⟩
  | 17 => ⟨S4x20000, .f32⟩
  | 18 => ⟨S4x20000, .f32⟩
  | 19 => ⟨S4x1024, .f32⟩
  | 20 => ⟨S4x1024, .i32⟩
  | 21 => ⟨S4x1024x1, .i32⟩
  | 22 => ⟨S_, .i32⟩
  | 23 => ⟨S4x1024x1, .i32⟩
  | 24 => ⟨S4x1024x1, .i1⟩
  | 25 => ⟨S_, .i32⟩
  | 26 => ⟨S4x1024x1, .i32⟩
  | 27 => ⟨S4x1024x1, .i32⟩
  | 28 => ⟨S4x1024x1, .i32⟩
  | 29 => ⟨S1, .i32⟩
  | 30 => ⟨S_, .i32⟩
  | 31 => ⟨S4x1024x1, .i32⟩
  | 32 => ⟨S4x1024x1, .i1⟩
  | 33 => ⟨S1x1x1, .i32⟩
  | 34 => ⟨S4x1024x1, .i32⟩
  | 35 => ⟨S4x1024x1, .i1⟩
  | 36 => ⟨S4x1024x1, .i1⟩
  | 37 => ⟨S_, .i1⟩
  | 38 => ⟨S4x1024, .i1⟩
  | 39 => ⟨S4x1024x7, .f32⟩
  | 40 => ⟨S4x1024x7, .i1⟩
  | 41 => ⟨S_, .f32⟩
  | 42 => ⟨S4x1024x7, .f32⟩
  | 43 => ⟨S4x1024x7, .f32⟩
  | 44 => ⟨S_, .i32⟩
  | 45 => ⟨S4x1024, .i32⟩
  | 46 => ⟨S4x1024, .i1⟩
  | 47 => ⟨S_, .i32⟩
  | 48 => ⟨S4x1024, .i32⟩
  | 49 => ⟨S4x1024, .i32⟩
  | 50 => ⟨S4x1024, .i32⟩
  | 51 => ⟨S4x1024x1, .i32⟩
  | 52 => ⟨S1, .i32⟩
  | 53 => ⟨S_, .i32⟩
  | 54 => ⟨S4x1024x1, .i32⟩
  | 55 => ⟨S4x1024x1, .i1⟩
  | 56 => ⟨S1x1x1, .i32⟩
  | 57 => ⟨S4x1024x1, .i32⟩
  | 58 => ⟨S4x1024x1, .i1⟩
  | 59 => ⟨S4x1024x1, .i1⟩
  | 60 => ⟨S_, .i1⟩
  | 61 => ⟨S4x1024, .i1⟩
  | 62 => ⟨S4x1024, .i32⟩
  | 63 => ⟨S_, .i32⟩
  | 64 => ⟨S4x1024, .i32⟩
  | 65 => ⟨S4x1024, .i32⟩
  | 66 => ⟨S4x1024x1, .f32⟩
  | 67 => ⟨S4x1024, .f32⟩
  | 68 => ⟨S4x1024x1, .f32⟩
  | 69 => ⟨S4x1024, .f32⟩
  | 70 => ⟨S4x1024x1, .f32⟩
  | 71 => ⟨S4x1024, .f32⟩
  | 72 => ⟨S4x1024x1, .f32⟩
  | 73 => ⟨S4x1024, .f32⟩
  | 74 => ⟨S_, .f32⟩
  | 75 => ⟨S4x1024, .f32⟩
  | 76 => ⟨S4x1024, .f32⟩
  | 77 => ⟨S4x1024, .f32⟩
  | 78 => ⟨S_, .f32⟩
  | 79 => ⟨S4x1024, .f32⟩
  | 80 => ⟨S4x1024, .f32⟩
  | 81 => ⟨S4x1024, .f32⟩
  | 82 => ⟨S_, .f32⟩
  | 83 => ⟨S4x1024, .f32⟩
  | 84 => ⟨S4x1024, .f32⟩
  | 85 => ⟨S4x1024, .f32⟩
  | 86 => ⟨S_, .f32⟩
  | 87 => ⟨S4x1024, .f32⟩
  | 88 => ⟨S4x1024, .f32⟩
  | 89 => ⟨S4x1024, .f32⟩
  | 90 => ⟨S4x1024, .f32⟩
  | 91 => ⟨S4x1024x1, .f32⟩
  | 92 => ⟨S4x1x1024, .f32⟩
  | 93 => ⟨S4x1024x1024, .f32⟩
  | 94 => ⟨S4x1024x1024, .f32⟩
  | 95 => ⟨S4x1024x1024, .f32⟩
  | 96 => ⟨S4x1024x1, .f32⟩
  | 97 => ⟨S4x1x1024, .f32⟩
  | 98 => ⟨S4x1024x1024, .f32⟩
  | 99 => ⟨S4x1024x1024, .f32⟩
  | 100 => ⟨S4x1024x1024, .f32⟩
  | 101 => ⟨S4x1024x1, .f32⟩
  | 102 => ⟨S4x1x1024, .f32⟩
  | 103 => ⟨S4x1024x1024, .f32⟩
  | 104 => ⟨S4x1024x1024, .f32⟩
  | 105 => ⟨S4x1024x1024, .f32⟩
  | 106 => ⟨S4x1024x1, .f32⟩
  | 107 => ⟨S4x1x1024, .f32⟩
  | 108 => ⟨S4x1024x1024, .f32⟩
  | 109 => ⟨S4x1024x1024, .f32⟩
  | 110 => ⟨S4x1024x1024, .f32⟩
  | 111 => ⟨S4x1024x1024, .f32⟩
  | 112 => ⟨S_, .f32⟩
  | 113 => ⟨S4x1024x1024, .f32⟩
  | 114 => ⟨S4x1024x1024, .f32⟩
  | 115 => ⟨S4x1024x1024, .f32⟩
  | 116 => ⟨S_, .f32⟩
  | 117 => ⟨S4x1024x1024, .f32⟩
  | 118 => ⟨S4x1024x1024, .f32⟩
  | 119 => ⟨S4x1024x1024, .f32⟩
  | 120 => ⟨S4x1024x1, .f32⟩
  | 121 => ⟨S4x1x1024, .f32⟩
  | 122 => ⟨S4x1024x1024, .f32⟩
  | 123 => ⟨S4x1024x1024, .f32⟩
  | 124 => ⟨S4x1024x1024, .f32⟩
  | 125 => ⟨S4x1024x1024, .f32⟩
  | 126 => ⟨S_, .f32⟩
  | 127 => ⟨S4x1024x1024, .f32⟩
  | _ => ⟨S4x20000x3, .f32⟩

abbrev hbmTy0_1 (i : Nat) : BufTy := match i % 128 with
  | 0 => ⟨S4x1024x1024, .f32⟩
  | 1 => ⟨S4x1024x1024, .f32⟩
  | 2 => ⟨S1024, .i32⟩
  | 3 => ⟨S_, .i1⟩
  | 4 => ⟨S4x1024, .i1⟩
  | 5 => ⟨S_, .i32⟩
  | 6 => ⟨S_, .i32⟩
  | 7 => ⟨S4x1024x1024, .f32⟩
  | 8 => ⟨S1024, .i32⟩
  | 9 => ⟨S_, .i32⟩
  | 10 => ⟨S_, .i32⟩
  | 11 => ⟨S4x1024, .i1⟩
  | 12 => ⟨S_, .i32⟩
  | 13 => ⟨S_, .i1⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S4x1, .i1⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S4x1x1024, .f32⟩
  | 33 => ⟨S4x1024, .f32⟩
  | 34 => ⟨S_, .f32⟩
  | 35 => ⟨S4x1024, .f32⟩
  | 36 => ⟨S4x1024, .i1⟩
  | 37 => ⟨S_, .i32⟩
  | 38 => ⟨S1024, .i32⟩
  | 39 => ⟨S1024, .i1⟩
  | 40 => ⟨S1x1024, .i1⟩
  | 41 => ⟨S4x1024, .i1⟩
  | 42 => ⟨S4x1024, .i1⟩
  | 43 => ⟨S4x1024, .i1⟩
  | 44 => ⟨S4x1024, .i1⟩
  | 45 => ⟨S4x1024, .i1⟩
  | 46 => ⟨S4x1024, .i1⟩
  | 47 => ⟨S_, .i32⟩
  | 48 => ⟨S_, .i32⟩
  | 49 => ⟨S_, .f32⟩
  | 50 => ⟨S4x1024, .f32⟩
  | 51 => ⟨S4x1024, .i1⟩
  | 52 => ⟨S4x1024, .i1⟩
  | 53 => ⟨S_, .f32⟩
  | 54 => ⟨S_, .f32⟩
  | 55 => ⟨S4x1024, .f32⟩
  | 56 => ⟨S4x1024, .f32⟩
  | 57 => ⟨S4x256, .f32⟩
  | 58 => ⟨S4x256, .i32⟩
  | 59 => ⟨S4x256x1, .i32⟩
  | 60 => ⟨S_, .i32⟩
  | 61 => ⟨S4x256x1, .i32⟩
  | 62 => ⟨S4x256x1, .i1⟩
  | 63 => ⟨S_, .i32⟩
  | 64 => ⟨S4x256x1, .i32⟩
  | 65 => ⟨S4x256x1, .i32⟩
  | 66 => ⟨S4x256x1, .i32⟩
  | 67 => ⟨S1, .i32⟩
  | 68 => ⟨S_, .i32⟩
  | 69 => ⟨S4x256x1, .i32⟩
  | 70 => ⟨S4x256x1, .i1⟩
  | 71 => ⟨S1x1x1, .i32⟩
  | 72 => ⟨S4x256x1, .i32⟩
  | 73 => ⟨S4x256x1, .i1⟩
  | 74 => ⟨S4x256x1, .i1⟩
  | 75 => ⟨S_, .i1⟩
  | 76 => ⟨S4x256, .i1⟩
  | 77 => ⟨S4x256x7, .f32⟩
  | 78 => ⟨S4x256x7, .i1⟩
  | 79 => ⟨S_, .f32⟩
  | 80 => ⟨S4x256x7, .f32⟩
  | 81 => ⟨S4x256x7, .f32⟩
  | 82 => ⟨S_, .f32⟩
  | 83 => ⟨S4x256, .f32⟩
  | 84 => ⟨S4x256, .i1⟩
  | 85 => ⟨S_, .i32⟩
  | 86 => ⟨S4x256, .i32⟩
  | 87 => ⟨S4x256, .i1⟩
  | 88 => ⟨S_, .i32⟩
  | 89 => ⟨S4x256, .i32⟩
  | 90 => ⟨S4x256, .i32⟩
  | 91 => ⟨S4x256, .i32⟩
  | 92 => ⟨S4x256x1, .i32⟩
  | 93 => ⟨S1, .i32⟩
  | 94 => ⟨S_, .i32⟩
  | 95 => ⟨S4x256x1, .i32⟩
  | 96 => ⟨S4x256x1, .i1⟩
  | 97 => ⟨S1x1x1, .i32⟩
  | 98 => ⟨S4x256x1, .i32⟩
  | 99 => ⟨S4x256x1, .i1⟩
  | 100 => ⟨S4x256x1, .i1⟩
  | 101 => ⟨S_, .i1⟩
  | 102 => ⟨S4x256, .i1⟩
  | 103 => ⟨S4x256, .i32⟩
  | 104 => ⟨S_, .i32⟩
  | 105 => ⟨S4x256, .i32⟩
  | 106 => ⟨S4x256, .i32⟩
  | 107 => ⟨S_, .i32⟩
  | 108 => ⟨S_, .i32⟩
  | 109 => ⟨S4x256, .i32⟩
  | 110 => ⟨S4x256, .i32⟩
  | 111 => ⟨S_, .f32⟩
  | 112 => ⟨S4x256, .f32⟩
  | 113 => ⟨S4x256, .i1⟩
  | 114 => ⟨S_, .f32⟩
  | 115 => ⟨S_, .f32⟩
  | 116 => ⟨S4x256, .f32⟩
  | 117 => ⟨S4x256, .f32⟩
  | _ => ⟨S4x20000x3, .f32⟩

abbrev hbmTy (i : Nat) : BufTy := match i / 128 with
  | 0 => hbmTy0_0 i
  | 1 => hbmTy0_1 i
  | _ => ⟨S4x20000x3, .f32⟩

abbrev bufTy : (tb : Table) → Fin (tcTables nBuf tb) → BufTy
  | .hbm, ⟨i, _⟩ => hbmTy i
  | _, _ => ⟨S4x20000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_call1_v0 : Ref sig .tc := ⟨.hbm, 16, rfl⟩
abbrev main_call1_v1 : Ref sig .tc := ⟨.hbm, 17, rfl⟩
abbrev main_v6 : Ref sig .tc := ⟨.hbm, 18, rfl⟩
abbrev main_values : Ref sig .tc := ⟨.hbm, 19, rfl⟩
abbrev main_indices : Ref sig .tc := ⟨.hbm, 20, rfl⟩
abbrev main_v7 : Ref sig .tc := ⟨.hbm, 21, rfl⟩
abbrev main_call2_c : Ref sig .tc := ⟨.hbm, 22, rfl⟩
abbrev main_call2_v0 : Ref sig .tc := ⟨.hbm, 23, rfl⟩
abbrev main_call2_v1 : Ref sig .tc := ⟨.hbm, 24, rfl⟩
abbrev main_call2_c_0 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_c_1 : Ref sig .tc := ⟨.hbm, 29, rfl⟩
abbrev main_call2_c_2 : Ref sig .tc := ⟨.hbm, 30, rfl⟩
abbrev main_call2_v5 : Ref sig .tc := ⟨.hbm, 31, rfl⟩
abbrev main_call2_v6 : Ref sig .tc := ⟨.hbm, 32, rfl⟩
abbrev main_call2_v7 : Ref sig .tc := ⟨.hbm, 33, rfl⟩
abbrev main_call2_v8 : Ref sig .tc := ⟨.hbm, 34, rfl⟩
abbrev main_call2_v9 : Ref sig .tc := ⟨.hbm, 35, rfl⟩
abbrev main_call2_v10 : Ref sig .tc := ⟨.hbm, 36, rfl⟩
abbrev main_call2_c_3 : Ref sig .tc := ⟨.hbm, 37, rfl⟩
abbrev main_call2_v11 : Ref sig .tc := ⟨.hbm, 38, rfl⟩
abbrev main_call2_v12 : Ref sig .tc := ⟨.hbm, 39, rfl⟩
abbrev main_call2_v13 : Ref sig .tc := ⟨.hbm, 40, rfl⟩
abbrev main_call2_cst : Ref sig .tc := ⟨.hbm, 41, rfl⟩
abbrev main_call2_v14 : Ref sig .tc := ⟨.hbm, 42, rfl⟩
abbrev main_v8 : Ref sig .tc := ⟨.hbm, 43, rfl⟩
abbrev main_call3_c : Ref sig .tc := ⟨.hbm, 44, rfl⟩
abbrev main_call3_v0 : Ref sig .tc := ⟨.hbm, 45, rfl⟩
abbrev main_call3_v1 : Ref sig .tc := ⟨.hbm, 46, rfl⟩
abbrev main_call3_c_0 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_v5 : Ref sig .tc := ⟨.hbm, 51, rfl⟩
abbrev main_call3_c_1 : Ref sig .tc := ⟨.hbm, 52, rfl⟩
abbrev main_call3_c_2 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_v9 : Ref sig .tc := ⟨.hbm, 57, rfl⟩
abbrev main_call3_v10 : Ref sig .tc := ⟨.hbm, 58, rfl⟩
abbrev main_call3_v11 : Ref sig .tc := ⟨.hbm, 59, rfl⟩
abbrev main_call3_c_3 : Ref sig .tc := ⟨.hbm, 60, rfl⟩
abbrev main_call3_v12 : Ref sig .tc := ⟨.hbm, 61, rfl⟩
abbrev main_call3_v13 : Ref sig .tc := ⟨.hbm, 62, rfl⟩
abbrev main_call3_c_4 : Ref sig .tc := ⟨.hbm, 63, rfl⟩
abbrev main_call3_v14 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_cst_2 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_cst_3 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_cst_4 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_cst_5 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_cst_6 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_cst_7 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_cst_8 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_c_9 : Ref sig .tc := ⟨.hbm, 131, rfl⟩
abbrev main_v68 : Ref sig .tc := ⟨.hbm, 132, rfl⟩
abbrev main_c_10 : Ref sig .tc := ⟨.hbm, 133, rfl⟩
abbrev main_c_11 : Ref sig .tc := ⟨.hbm, 134, rfl⟩
abbrev main_v69_0 : Ref sig .tc := ⟨.hbm, 135, rfl⟩
abbrev main_v69_1 : Ref sig .tc := ⟨.hbm, 136, rfl⟩
abbrev main_v69_2 : Ref sig .tc := ⟨.hbm, 137, rfl⟩
abbrev main_v69_3 : Ref sig .tc := ⟨.hbm, 138, rfl⟩
abbrev main_v69_4 : Ref sig .tc := ⟨.hbm, 139, rfl⟩
abbrev main_while0c_c_24 : Ref sig .tc := ⟨.hbm, 140, rfl⟩
abbrev main_while0c_v83 : Ref sig .tc := ⟨.hbm, 141, rfl⟩
abbrev main_while0b_c_24 : Ref sig .tc := ⟨.hbm, 142, rfl⟩
abbrev main_while0b_v83 : Ref sig .tc := ⟨.hbm, 143, rfl⟩
abbrev main_while0b_c_25 : Ref sig .tc := ⟨.hbm, 144, rfl⟩
abbrev main_while0b_v84 : Ref sig .tc := ⟨.hbm, 145, rfl⟩
abbrev main_while0b_v85 : Ref sig .tc := ⟨.hbm, 146, rfl⟩
abbrev main_while0b_c_26 : Ref sig .tc := ⟨.hbm, 147, rfl⟩
abbrev main_while0b_v86 : Ref sig .tc := ⟨.hbm, 148, rfl⟩
abbrev main_while0b_v87 : Ref sig .tc := ⟨.hbm, 149, rfl⟩
abbrev main_while0b_c_27 : Ref sig .tc := ⟨.hbm, 150, rfl⟩
abbrev main_while0b_v88 : Ref sig .tc := ⟨.hbm, 151, rfl⟩
abbrev main_while0b_c_28 : Ref sig .tc := ⟨.hbm, 152, rfl⟩
abbrev main_while0b_v89 : Ref sig .tc := ⟨.hbm, 153, rfl⟩
abbrev main_while0b_v90 : Ref sig .tc := ⟨.hbm, 154, rfl⟩
abbrev main_while0b_c_29 : Ref sig .tc := ⟨.hbm, 155, rfl⟩
abbrev main_while0b_v91 : Ref sig .tc := ⟨.hbm, 156, rfl⟩
abbrev main_while0b_v92 : Ref sig .tc := ⟨.hbm, 157, rfl⟩
abbrev main_while0b_c_30 : Ref sig .tc := ⟨.hbm, 158, rfl⟩
abbrev main_while0b_c_31 : Ref sig .tc := ⟨.hbm, 159, rfl⟩
abbrev main_while0b_v93 : Ref sig .tc := ⟨.hbm, 160, rfl⟩
abbrev main_while0b_v94 : Ref sig .tc := ⟨.hbm, 161, rfl⟩
abbrev main_while0b_cst_32 : Ref sig .tc := ⟨.hbm, 162, rfl⟩
abbrev main_while0b_v95 : Ref sig .tc := ⟨.hbm, 163, rfl⟩
abbrev main_while0b_v96 : Ref sig .tc := ⟨.hbm, 164, rfl⟩
abbrev main_while0b_v97 : Ref sig .tc := ⟨.hbm, 165, rfl⟩
abbrev main_while0b_v98 : Ref sig .tc := ⟨.hbm, 166, rfl⟩
abbrev main_while0b_v99 : Ref sig .tc := ⟨.hbm, 167, rfl⟩
abbrev main_while0b_v100 : Ref sig .tc := ⟨.hbm, 168, rfl⟩
abbrev main_while0b_v101 : Ref sig .tc := ⟨.hbm, 169, rfl⟩
abbrev main_while0b_v102 : Ref sig .tc := ⟨.hbm, 170, rfl⟩
abbrev main_while0b_v103 : Ref sig .tc := ⟨.hbm, 171, rfl⟩
abbrev main_while0b_v104 : Ref sig .tc := ⟨.hbm, 172, rfl⟩
abbrev main_while0b_v105 : Ref sig .tc := ⟨.hbm, 173, rfl⟩
abbrev main_while0b_v106 : Ref sig .tc := ⟨.hbm, 174, rfl⟩
abbrev main_while0b_c_33 : Ref sig .tc := ⟨.hbm, 175, rfl⟩
abbrev main_while0b_v107 : Ref sig .tc := ⟨.hbm, 176, rfl⟩
abbrev main_cst_12 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_cst_13 : Ref sig .tc := ⟨.hbm, 181, rfl⟩
abbrev main_call4_v0 : Ref sig .tc := ⟨.hbm, 182, rfl⟩
abbrev main_call4_v1 : Ref sig .tc := ⟨.hbm, 183, rfl⟩
abbrev main_v73 : Ref sig .tc := ⟨.hbm, 184, rfl⟩
abbrev main_values_14 : Ref sig .tc := ⟨.hbm, 185, rfl⟩
abbrev main_indices_15 : Ref sig .tc := ⟨.hbm, 186, rfl⟩
abbrev main_v74 : Ref sig .tc := ⟨.hbm, 187, rfl⟩
abbrev main_call5_c : Ref sig .tc := ⟨.hbm, 188, rfl⟩
abbrev main_call5_v0 : Ref sig .tc := ⟨.hbm, 189, rfl⟩
abbrev main_call5_v1 : Ref sig .tc := ⟨.hbm, 190, rfl⟩
abbrev main_call5_c_0 : Ref sig .tc := ⟨.hbm, 191, rfl⟩
abbrev main_call5_v2 : Ref sig .tc := ⟨.hbm, 192, rfl⟩
abbrev main_call5_v3 : Ref sig .tc := ⟨.hbm, 193, rfl⟩
abbrev main_call5_v4 : Ref sig .tc := ⟨.hbm, 194, rfl⟩
abbrev main_call5_c_1 : Ref sig .tc := ⟨.hbm, 195, rfl⟩
abbrev main_call5_c_2 : Ref sig .tc := ⟨.hbm, 196, rfl⟩
abbrev main_call5_v5 : Ref sig .tc := ⟨.hbm, 197, rfl⟩
abbrev main_call5_v6 : Ref sig .tc := ⟨.hbm, 198, rfl⟩
abbrev main_call5_v7 : Ref sig .tc := ⟨.hbm, 199, rfl⟩
abbrev main_call5_v8 : Ref sig .tc := ⟨.hbm, 200, rfl⟩
abbrev main_call5_v9 : Ref sig .tc := ⟨.hbm, 201, rfl⟩
abbrev main_call5_v10 : Ref sig .tc := ⟨.hbm, 202, rfl⟩
abbrev main_call5_c_3 : Ref sig .tc := ⟨.hbm, 203, rfl⟩
abbrev main_call5_v11 : Ref sig .tc := ⟨.hbm, 204, rfl⟩
abbrev main_call5_v12 : Ref sig .tc := ⟨.hbm, 205, rfl⟩
abbrev main_call5_v13 : Ref sig .tc := ⟨.hbm, 206, rfl⟩
abbrev main_call5_cst : Ref sig .tc := ⟨.hbm, 207, rfl⟩
abbrev main_call5_v14 : Ref sig .tc := ⟨.hbm, 208, rfl⟩
abbrev main_v75 : Ref sig .tc := ⟨.hbm, 209, rfl⟩
abbrev main_cst_16 : Ref sig .tc := ⟨.hbm, 210, rfl⟩
abbrev main_v76 : Ref sig .tc := ⟨.hbm, 211, rfl⟩
abbrev main_v77 : Ref sig .tc := ⟨.hbm, 212, rfl⟩
abbrev main_call6_c : Ref sig .tc := ⟨.hbm, 213, rfl⟩
abbrev main_call6_v0 : Ref sig .tc := ⟨.hbm, 214, rfl⟩
abbrev main_call6_v1 : Ref sig .tc := ⟨.hbm, 215, rfl⟩
abbrev main_call6_c_0 : Ref sig .tc := ⟨.hbm, 216, rfl⟩
abbrev main_call6_v2 : Ref sig .tc := ⟨.hbm, 217, rfl⟩
abbrev main_call6_v3 : Ref sig .tc := ⟨.hbm, 218, rfl⟩
abbrev main_call6_v4 : Ref sig .tc := ⟨.hbm, 219, rfl⟩
abbrev main_call6_v5 : Ref sig .tc := ⟨.hbm, 220, rfl⟩
abbrev main_call6_c_1 : Ref sig .tc := ⟨.hbm, 221, rfl⟩
abbrev main_call6_c_2 : Ref sig .tc := ⟨.hbm, 222, rfl⟩
abbrev main_call6_v6 : Ref sig .tc := ⟨.hbm, 223, rfl⟩
abbrev main_call6_v7 : Ref sig .tc := ⟨.hbm, 224, rfl⟩
abbrev main_call6_v8 : Ref sig .tc := ⟨.hbm, 225, rfl⟩
abbrev main_call6_v9 : Ref sig .tc := ⟨.hbm, 226, rfl⟩
abbrev main_call6_v10 : Ref sig .tc := ⟨.hbm, 227, rfl⟩
abbrev main_call6_v11 : Ref sig .tc := ⟨.hbm, 228, rfl⟩
abbrev main_call6_c_3 : Ref sig .tc := ⟨.hbm, 229, rfl⟩
abbrev main_call6_v12 : Ref sig .tc := ⟨.hbm, 230, rfl⟩
abbrev main_call6_v13 : Ref sig .tc := ⟨.hbm, 231, rfl⟩
abbrev main_call6_c_4 : Ref sig .tc := ⟨.hbm, 232, rfl⟩
abbrev main_call6_v14 : Ref sig .tc := ⟨.hbm, 233, rfl⟩
abbrev main_v78 : Ref sig .tc := ⟨.hbm, 234, rfl⟩
abbrev main_c_17 : Ref sig .tc := ⟨.hbm, 235, rfl⟩
abbrev main_call7_v0 : Ref sig .tc := ⟨.hbm, 236, rfl⟩
abbrev main_call7_v1 : Ref sig .tc := ⟨.hbm, 237, rfl⟩
abbrev main_v79 : Ref sig .tc := ⟨.hbm, 238, rfl⟩
abbrev main_cst_18 : Ref sig .tc := ⟨.hbm, 239, rfl⟩
abbrev main_v80 : Ref sig .tc := ⟨.hbm, 240, rfl⟩
abbrev main_v81 : Ref sig .tc := ⟨.hbm, 241, rfl⟩
abbrev main_cst_19 : Ref sig .tc := ⟨.hbm, 242, rfl⟩
abbrev main_call8_v0 : Ref sig .tc := ⟨.hbm, 243, rfl⟩
abbrev main_call8_v1 : Ref sig .tc := ⟨.hbm, 244, rfl⟩
abbrev main_v82 : Ref sig .tc := ⟨.hbm, 245, rfl⟩

abbrev nD : Nat := 1
abbrev τ : Topo := Topo.v7x

variable {F : FTy → Type} [FloatOps F]

abbrev main_while0_count : Scf.Loop 32 := ⟨0#32, 1024#32, 1#32⟩
-- ==== Proof.KernelIdealScore.lean ====
/- The score region: what its body leaves in the two output blocks at a point, the pipeline's proof data over any contents
   the region finds, and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.Claim

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- Window `w`'s block at point `t` of the score region, read off its array as the region finds it. -/
def iblk0 (W : Dev nD → Valuation τ sig (Elt F)) (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The current staging buffer of input 0 holds its block at every point. -/
theorem held0_0 (W : Dev nD → Valuation τ sig (Elt F)) {c : Dev nD} (dat : Dat τ (Elt F) Unit ℕ (UR sig nD τ) ℕ cfg0 c) (hA : dat.A 0 = W c (Proc.devRef .tc (Pipeline.arrRef spec0 0)))
    (hafter : ∀ t, dat.after 0 t = iblk0 W c 0 t) (t : Fin cfg0.N) (d) : dat.before 0 t d = iblk0 W c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as rectangles. -/
abbrev rIn : Rect S1x3x20000 := Rect.unit (s := S1x3x20000) ![0, 0, 0] S1x3x20000.size inb_S1x3x20000_S1x3x20000_0_0_0
abbrev rOut : Rect S1x1x20000 := Rect.unit (s := S1x1x20000) ![0, 0, 0] S1x1x20000.size inb_S1x1x20000_S1x1x20000_0_0_0

/-- The masked scores the body stores for an input block. -/
def scoreOut (x0 : Vec F S1x3x20000 .f32) : Vec F S1x1x20000 .f32 := View.canon [⟨rOut, k0_pay5 (View.ld x0 rIn)⟩]
/-- The labels the body stores for an input block. -/
def labelOut (x0 : Vec F S1x3x20000 .f32) : Vec F S1x1x20000 .f32 := View.canon [⟨rOut, k0_pay6 (View.ld x0 rIn)⟩]

theorem coverOut (p : Vec F S1x1x20000 .f32) (y : S1x1x20000.Idx) : ∃ pc ∈ ([⟨rOut, p⟩] : List (View.Piece (Elt F) S1x1x20000 .f32)), y ∈ pc.1.set :=
  View.cover_of_tiled [⟨rOut, p⟩] S1x1x20000.size (by rfl) y

set_option maxHeartbeats 800000 in
/-- The score body on whole staging memrefs. -/
theorem score_sound (c : Dev nD) (i : grid0.Coords) (arg1 : Memref sig .tc .vmem S1x3x20000 .f32) (harg1 : arg1.IsWhole) (arg2 : Memref sig .tc .vmem S1x1x20000 .f32) (harg2 : arg2.IsWhole) (arg3 : Memref sig .tc .vmem S1x1x20000 .f32) (harg3 : arg3.IsWhole)
    (x0 : Vec F S1x3x20000 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (scoreOut x0) ∗ owns (c : Thread nD τ) arg3 fullShare (labelOut x0)) -∗ K ⟨⟩))
      ⊢ wp frame (wpE (defs₀ (F := F)) Variants.none c none) E (cc0__score_body i arg1 harg1 arg2 harg2 arg3 harg3) K := by
  simp only [cc0__score_body_eq_skeleton]; unfold cc0__score_body_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists _; isplitr
    swap; · iexact H0
    ipureintro; rfl
  isplitl [H1]
  · iexists _; isplitr
    swap; · iexact H1
    ipureintro; exact View.read_writes_eq_canon _ _ _ (coverOut _)
  iexists _; isplitr
  swap; · iexact H2
  ipureintro; exact View.read_writes_eq_canon _ _ _ (coverOut _)

/-- The score region's proof data over the contents `W` it finds. -/
def dat0 (W : Dev nD → Valuation τ sig (Elt F)) (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => scoreOut (iblk0 W c 0 t)
    | ⟨2, _⟩ => labelOut (iblk0 W c 0 t)
  Φ _ := Pipeline.ΦA spec0 c
  q _ := fullShare
  owed _ := 0

section

variable (W : Dev nD → Valuation τ sig (Elt F)) (c : Dev nD)

theorem dat0_A (w : Fin cfg0.W) : (dat0 W c).A w = W c (Proc.devRef .tc (Pipeline.arrRef spec0 w)) := by
  dsimp only [dat0]
theorem dat0_after0 (t : Fin cfg0.N) : (dat0 W c).after 0 t = iblk0 W c 0 t := by dsimp only [dat0]
theorem dat0_after1 (t : Fin cfg0.N) : (dat0 W c).after 1 t = scoreOut (iblk0 W c 0 t) := by dsimp only [dat0]
theorem dat0_after2 (t : Fin cfg0.N) : (dat0 W c).after 2 t = labelOut (iblk0 W c 0 t) := by dsimp only [dat0]
theorem dat0_before0 (t : Fin cfg0.N) (d) : (dat0 W c).before 0 t d = iblk0 W c 0 t :=
  held0_0 W (dat0 W c) (dat0_A W c 0) (dat0_after0 W c) t d

/-- What the body is called with at point `t`, the windows one by one. -/
def before0 (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d)))

/-- What the body returns at point `t`. -/
def after0 (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t))

set_option maxHeartbeats 800000 in
/-- The body at any point. -/
theorem body0_sound (t : Fin cfg0.N) :
    before0 W c t ⊢ wp frame (wpE (defs₀ (F := F)) Variants.none c none) Set.univ (bodyAt0 t) (fun _ => after0 W c t) := by
  unfold before0 after0 bodyAt0
  simp only [dat0_before0]
  rw [show (dat0 W c).Φ t.succ = (dat0 W c).Φ t.castSucc from rfl,
    show (dat0 W c).owesAt () t.succ = (dat0 W c).owesAt () t.castSucc from rfl,
    dat0_after0, dat0_after1, dat0_after2]
  iintro ⟨HΦ, Ho, ⟨%d0, H0⟩, ⟨%d1, H1⟩, ⟨%d2, H2⟩⟩
  iapply (score_sound c (grid0.coords t) _ _ _ _ _ _ (iblk0 W c 0 t) Set.univ _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row0 (t : Fin cfg0.N) :
    defs₀ (F := F) .tc cfg0.body (cfg0.bodyArgs t (cfg0.slots t)) = bodyAt0 t := by
  unfold defs₀; rw [Defs.onTc_tc]

/-- The body obligation of the score region. -/
theorem obligation0 : BodyObligation (dat0 (F := F) W c) (defs₀ (F := F)) Variants.none () Set.univ := fun t => by
  rw [bigSep_W0, bigSep_W0, row0]
  exact triple_restated (body0_sound W c t) rfl .rfl fun _ => .rfl

end

end Cert.KernelIdeal.Pf

end
-- ==== Proof.KernelIdealNmsRun.lean ====
/- What one run of the second kernel (the suppression kernel) leaves in its three output blocks: the body run on whole
   staging memrefs, its stores collected as pieces. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 1000000 in
/-- The pieces the body's stores leave in the three outputs' staging memrefs (last first), with the proof that the body,
    given the inputs' memrefs at `x0`, `x1`, `x2` and the others at anything, runs to a state holding the inputs as they
    were, the scratch at something, and each output's buffer with its pieces written. -/
noncomputable def nmsRun (c : Dev nD) (i : grid1.Coords) (arg1 : Memref sig .tc .vmem S1x20000x8 .f32) (harg1 : arg1.IsWhole) (arg2 : Memref sig .tc .smem S1x1x1024 .i32) (harg2 : arg2.IsWhole) (arg3 : Memref sig .tc .vmem S1x1x1024 .f32) (harg3 : arg3.IsWhole) (arg4 : Memref sig .tc .vmem S1x256x7 .f32) (harg4 : arg4.IsWhole) (arg5 : Memref sig .tc .vmem S1x256x1 .f32) (harg5 : arg5.IsWhole) (arg6 : Memref sig .tc .vmem S1x256x1 .i32) (harg6 : arg6.IsWhole) (arg7 : Memref sig .tc .vmem S1024x8 .f32) (harg7 : arg7.IsWhole) (arg8 : Memref sig .tc .vmem S1024x1024 .f32) (harg8 : arg8.IsWhole)
    (x0 : Vec F S1x20000x8 .f32) (x1 : Vec F S1x1x1024 .i32) (x2 : Vec F S1x1x1024 .f32) (k1_hw1L : (∀ (kq : ℕ) (hkq : kq < k1_t1_loop.trips), k1_chk1 (arg2.view.readAt (Elt F) (Rect.unit (s := S1x1x1024) (k1_off1 ⟨kq, hkq⟩) S1x1x1.size (k1_off1_inb ⟨kq, hkq⟩)).toLoadRect (harg2.unread x1) (Shape.Idx.first (numel1_S1x1x1.symm ▸ Nat.one_pos))))) :
    Σ' (L3 : List (View.Piece (Elt F) S1x256x7 .f32)), Σ' (L4 : List (View.Piece (Elt F) S1x256x1 .f32)), { L5 : List (View.Piece (Elt F) S1x256x1 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ d, owns (c : Thread nD τ) arg7 fullShare d) ∗ (∃ d, owns (c : Thread nD τ) arg8 fullShare d)) -∗ K ⟨⟩))
          ⊢ wp frame (wpE (defs₀ (F := F)) Variants.none c none) E (cc1__nms_body i arg1 harg1 arg2 harg2 arg3 harg3 arg4 harg4 arg5 harg5 arg6 harg6 arg7 harg7 arg8 harg8) K } := by
  refine ⟨?_, ?_, ?_, fun E K => ?run⟩
  case run =>
    simp only [cc1__nms_body_eq_skeleton]; unfold cc1__nms_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    have hrd0 : ∀ (𝒱 : Variants) (c : Dev nD) (bd : Option 𝒱.V) (i : grid1.Coords) (arg1 : Memref sig .tc .vmem S1x20000x8 .f32) (harg1 : arg1.IsWhole) (arg2 : Memref sig .tc .smem S1x1x1024 .i32) (harg2 : arg2.IsWhole) (arg3 : Memref sig .tc .vmem S1x1x1024 .f32) (harg3 : arg3.IsWhole) (arg4 : Memref sig .tc .vmem S1x256x7 .f32) (harg4 : arg4.IsWhole) (arg5 : Memref sig .tc .vmem S1x256x1 .f32) (harg5 : arg5.IsWhole) (arg6 : Memref sig .tc .vmem S1x256x1 .i32) (harg6 : arg6.IsWhole) (arg7 : Memref sig .tc .vmem S1024x8 .f32) (harg7 : arg7.IsWhole) (arg8 : Memref sig .tc .vmem S1024x1024 .f32) (harg8 : arg8.IsWhole) (X_arg1 : BufTy.Contents (Elt F) arg1.view.ty) (X_arg2 : BufTy.Contents (Elt F) arg2.view.ty) (k1_hw1L : ∀ (kq : ℕ) (hkq : kq < k1_t1_loop.trips), k1_chk1 (arg2.view.readAt (Elt F) (Rect.unit (s := S1x1x1024) (k1_off1 ⟨kq, hkq⟩) S1x1x1.size (k1_off1_inb ⟨kq, hkq⟩)).toLoadRect X_arg2 (Shape.Idx.first (numel1_S1x1x1.symm ▸ Nat.one_pos)))) (hrdF : BufTy.Contents (Elt F) arg7.view.ty) (hrdB : LoadRect S1024x8), arg7.view.readAt (Elt F) hrdB (arg7.view.writes (Elt F) hrdF (pb_k1_t1 (F := F) 𝒱 c bd i arg1 harg1 arg2 harg2 arg3 harg3 arg4 harg4 arg5 harg5 arg6 harg6 arg7 harg7 arg8 harg8 X_arg1 X_arg2 k1_hw1L (Scf.trips k1_t1_loop.lb k1_t1_loop.ub k1_t1_loop.st))) = arg7.view.readCov (pb_k1_t1 (F := F) 𝒱 c bd i arg1 harg1 arg2 harg2 arg3 harg3 arg4 harg4 arg5 harg5 arg6 harg6 arg7 harg7 arg8 harg8 X_arg1 X_arg2 k1_hw1L (Scf.trips k1_t1_loop.lb k1_t1_loop.ub k1_t1_loop.st)) hrdB := fun 𝒱 c bd i arg1 harg1 arg2 harg2 arg3 harg3 arg4 harg4 arg5 harg5 arg6 harg6 arg7 harg7 arg8 harg8 X_arg1 X_arg2 k1_hw1L hrdF hrdB => View.readAt_writes_of_cover _ hrdF _ hrdB (fun hrdJ => View.cover_of_tiledL (pb_k1_t1 (F := F) 𝒱 c bd i arg1 harg1 arg2 harg2 arg3 harg3 arg4 harg4 arg5 harg5 arg6 harg6 arg7 harg7 arg8 harg8 X_arg1 X_arg2 k1_hw1L (Scf.trips k1_t1_loop.lb k1_t1_loop.ub k1_t1_loop.st)) S1x8.size (by sl_kernel_rfl) (hrdB.idx hrdJ))
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]
    · iexists _, _; isplitr; swap; · iexact HS0
      ipureintro; rfl
    iexists _, _; isplitr; swap; · iexact HS1
    ipureintro; rfl

end Cert.KernelIdeal.Pf

end
-- ==== Proof.KernelIdealNms.lean ====
/- The suppression region: what its body leaves in the three output blocks at a point, the pipeline's proof data over any
   contents the region finds, and its body obligation. -/
module

public import proofs.«01_k».proof.Proof.KernelIdealNmsRun
public import Idealize.ShloMosaic.Lib.Claim

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- Window `w`'s block at point `t` of the suppression region, read off its array as the region finds it. -/
def iblk1 (W : Dev nD → Valuation τ sig (Elt F)) (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The current staging buffer of input 0 holds its block at every point. -/
theorem held1_0 (W : Dev nD → Valuation τ sig (Elt F)) {c : Dev nD} (dat : Dat τ (Elt F) Unit ℕ (UR sig nD τ) ℕ cfg1 c) (hA : dat.A 0 = W c (Proc.devRef .tc (Pipeline.arrRef spec1 0)))
    (hafter : ∀ t, dat.after 0 t = iblk1 W c 0 t) (t : Fin cfg1.N) (d) : dat.before 0 t d = iblk1 W c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The current staging buffer of input 1 holds its block at every point. -/
theorem held1_1 (W : Dev nD → Valuation τ sig (Elt F)) {c : Dev nD} (dat : Dat τ (Elt F) Unit ℕ (UR sig nD τ) ℕ cfg1 c) (hA : dat.A 1 = W c (Proc.devRef .tc (Pipeline.arrRef spec1 1)))
    (hafter : ∀ t, dat.after 1 t = iblk1 W c 1 t) (t : Fin cfg1.N) (d) : dat.before 1 t d = iblk1 W c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The current staging buffer of input 2 holds its block at every point. -/
theorem held1_2 (W : Dev nD → Valuation τ sig (Elt F)) {c : Dev nD} (dat : Dat τ (Elt F) Unit ℕ (UR sig nD τ) ℕ cfg1 c) (hA : dat.A 2 = W c (Proc.devRef .tc (Pipeline.arrRef spec1 2)))
    (hafter : ∀ t, dat.after 2 t = iblk1 W c 2 t) (t : Fin cfg1.N) (d) : dat.before 2 t d = iblk1 W c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of output 3, through which its contents are read back. -/
abbrev vo3 : View sig .tc .vmem S1x256x7 .f32 := (Memref.whole cc1_stg3_0 : Memref sig .tc .vmem S1x256x7 .f32).view

/-- One staging buffer of output 4, through which its contents are read back. -/
abbrev vo4 : View sig .tc .vmem S1x256x1 .f32 := (Memref.whole cc1_stg4_0 : Memref sig .tc .vmem S1x256x1 .f32).view

/-- One staging buffer of output 5, through which its contents are read back. -/
abbrev vo5 : View sig .tc .vmem S1x256x1 .i32 := (Memref.whole cc1_stg5_0 : Memref sig .tc .vmem S1x256x1 .i32).view
/-- Window 0's staging memref at point `t`, and that it is whole. -/
abbrev mr0 (t : Fin cfg1.N) : Memref sig .tc .vmem S1x20000x8 .f32 := win1_0.stage (cfg1.slots t 0)
abbrev wh0 (t : Fin cfg1.N) : (mr0 t).IsWhole := hstage1_0 ((cfg1.slots t 0).cast nbuf1_0)
/-- Window 1's staging memref at point `t`, and that it is whole. -/
abbrev mr1 (t : Fin cfg1.N) : Memref sig .tc .smem S1x1x1024 .i32 := win1_1.stage (cfg1.slots t 1)
abbrev wh1 (t : Fin cfg1.N) : (mr1 t).IsWhole := hstage1_1 ((cfg1.slots t 1).cast nbuf1_1)
/-- Window 2's staging memref at point `t`, and that it is whole. -/
abbrev mr2 (t : Fin cfg1.N) : Memref sig .tc .vmem S1x1x1024 .f32 := win1_2.stage (cfg1.slots t 2)
abbrev wh2 (t : Fin cfg1.N) : (mr2 t).IsWhole := hstage1_2 ((cfg1.slots t 2).cast nbuf1_2)
/-- Window 3's staging memref at point `t`, and that it is whole. -/
abbrev mr3 (t : Fin cfg1.N) : Memref sig .tc .vmem S1x256x7 .f32 := win1_3.stage (cfg1.slots t 3)
abbrev wh3 (t : Fin cfg1.N) : (mr3 t).IsWhole := hstage1_3 ((cfg1.slots t 3).cast nbuf1_3)
/-- Window 4's staging memref at point `t`, and that it is whole. -/
abbrev mr4 (t : Fin cfg1.N) : Memref sig .tc .vmem S1x256x1 .f32 := win1_4.stage (cfg1.slots t 4)
abbrev wh4 (t : Fin cfg1.N) : (mr4 t).IsWhole := hstage1_4 ((cfg1.slots t 4).cast nbuf1_4)
/-- Window 5's staging memref at point `t`, and that it is whole. -/
abbrev mr5 (t : Fin cfg1.N) : Memref sig .tc .vmem S1x256x1 .i32 := win1_5.stage (cfg1.slots t 5)
abbrev wh5 (t : Fin cfg1.N) : (mr5 t).IsWhole := hstage1_5 ((cfg1.slots t 5).cast nbuf1_5)
/-- The two scratch buffers. -/
abbrev scA : Memref sig .tc .vmem S1024x8 .f32 := Memref.whole cc1_scratch0
abbrev scB : Memref sig .tc .vmem S1024x1024 .f32 := Memref.whole cc1_scratch1

/-- The words the body loads as row numbers are row numbers, at every point. -/
def RowsOk (W : Dev nD → Valuation τ sig (Elt F)) : Prop :=
  ∀ (c : Dev nD) (t : Fin cfg1.N) (kq : ℕ) (hkq : kq < k1_t1_loop.trips), k1_chk1 ((mr1 t).view.readAt (Elt F) (Rect.unit (s := S1x1x1024) (k1_off1 ⟨kq, hkq⟩) S1x1x1.size (k1_off1_inb ⟨kq, hkq⟩)).toLoadRect ((wh1 t).unread (iblk1 W c 1 t)) (Shape.Idx.first (numel1_S1x1x1.symm ▸ Nat.one_pos)))

/-- The region's invariant: the two scratch buffers and the buffers of the other region at some contents, and the generator
    register at some value. -/
def othersHeld (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

theorem inv1_split (c : Dev nD) :
    (Pipeline.ΦA spec1 c : sProp 𝕄) ⊢ iprop(othersHeld c ∗ (∃ d, owns (c : Thread nD τ) scA fullShare d) ∗ (∃ d, owns (c : Thread nD τ) scB fullShare d) ∗ (∃ r, prngReg c r)) := by
  unfold Pipeline.ΦA othersHeld; rw [scopedRest1_eq]; simp only [scA, scB, owns_whole]
  iintro ⟨⟨H0, H1, H2, H3, H4, H5, HA, HB⟩, Hg⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HA]; · iexact HA
  isplitl [HB]; · iexact HB
  iexact Hg

theorem inv1_join (c : Dev nD) :
    iprop(othersHeld c ∗ (∃ d, owns (c : Thread nD τ) scA fullShare d) ∗ (∃ d, owns (c : Thread nD τ) scB fullShare d) ∗ (∃ r, prngReg c r)) ⊢ (Pipeline.ΦA spec1 c : sProp 𝕄) := by
  unfold Pipeline.ΦA othersHeld; rw [scopedRest1_eq]; simp only [scA, scB, owns_whole]
  iintro ⟨⟨H0, H1, H2, H3, H4, H5⟩, HA, HB, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [HA]; · iexact HA
    iexact HB
  iexact Hg

/-- The stores into output 3 cover its block. -/
theorem covers3 (c : Dev nD) (i : grid1.Coords) (arg1 : Memref sig .tc .vmem S1x20000x8 .f32) (harg1 : arg1.IsWhole) (arg2 : Memref sig .tc .smem S1x1x1024 .i32) (harg2 : arg2.IsWhole) (arg3 : Memref sig .tc .vmem S1x1x1024 .f32) (harg3 : arg3.IsWhole) (arg4 : Memref sig .tc .vmem S1x256x7 .f32) (harg4 : arg4.IsWhole) (arg5 : Memref sig .tc .vmem S1x256x1 .f32) (harg5 : arg5.IsWhole) (arg6 : Memref sig .tc .vmem S1x256x1 .i32) (harg6 : arg6.IsWhole) (arg7 : Memref sig .tc .vmem S1024x8 .f32) (harg7 : arg7.IsWhole) (arg8 : Memref sig .tc .vmem S1024x1024 .f32) (harg8 : arg8.IsWhole)
    (x0 : Vec F S1x20000x8 .f32) (x1 : Vec F S1x1x1024 .i32) (x2 : Vec F S1x1x1024 .f32) (k1_hw1L : (∀ (kq : ℕ) (hkq : kq < k1_t1_loop.trips), k1_chk1 (arg2.view.readAt (Elt F) (Rect.unit (s := S1x1x1024) (k1_off1 ⟨kq, hkq⟩) S1x1x1.size (k1_off1_inb ⟨kq, hkq⟩)).toLoadRect (harg2.unread x1) (Shape.Idx.first (numel1_S1x1x1.symm ▸ Nat.one_pos))))) (y : S1x256x7.Idx) :
    ∃ pc ∈ (nmsRun c i arg1 harg1 arg2 harg2 arg3 harg3 arg4 harg4 arg5 harg5 arg6 harg6 arg7 harg7 arg8 harg8 x0 x1 x2 k1_hw1L).1, y ∈ pc.1.set :=
  View.cover_of_tiledL (nmsRun c i arg1 harg1 arg2 harg2 arg3 harg3 arg4 harg4 arg5 harg5 arg6 harg6 arg7 harg7 arg8 harg8 x0 x1 x2 k1_hw1L).1 S1x128x7.size (by sl_kernel_rfl) y

/-- The stores into output 4 cover its block. -/
theorem covers4 (c : Dev nD) (i : grid1.Coords) (arg1 : Memref sig .tc .vmem S1x20000x8 .f32) (harg1 : arg1.IsWhole) (arg2 : Memref sig .tc .smem S1x1x1024 .i32) (harg2 : arg2.IsWhole) (arg3 : Memref sig .tc .vmem S1x1x1024 .f32) (harg3 : arg3.IsWhole) (arg4 : Memref sig .tc .vmem S1x256x7 .f32) (harg4 : arg4.IsWhole) (arg5 : Memref sig .tc .vmem S1x256x1 .f32) (harg5 : arg5.IsWhole) (arg6 : Memref sig .tc .vmem S1x256x1 .i32) (harg6 : arg6.IsWhole) (arg7 : Memref sig .tc .vmem S1024x8 .f32) (harg7 : arg7.IsWhole) (arg8 : Memref sig .tc .vmem S1024x1024 .f32) (harg8 : arg8.IsWhole)
    (x0 : Vec F S1x20000x8 .f32) (x1 : Vec F S1x1x1024 .i32) (x2 : Vec F S1x1x1024 .f32) (k1_hw1L : (∀ (kq : ℕ) (hkq : kq < k1_t1_loop.trips), k1_chk1 (arg2.view.readAt (Elt F) (Rect.unit (s := S1x1x1024) (k1_off1 ⟨kq, hkq⟩) S1x1x1.size (k1_off1_inb ⟨kq, hkq⟩)).toLoadRect (harg2.unread x1) (Shape.Idx.first (numel1_S1x1x1.symm ▸ Nat.one_pos))))) (y : S1x256x1.Idx) :
    ∃ pc ∈ (nmsRun c i arg1 harg1 arg2 harg2 arg3 harg3 arg4 harg4 arg5 harg5 arg6 harg6 arg7 harg7 arg8 harg8 x0 x1 x2 k1_hw1L).2.1, y ∈ pc.1.set :=
  View.cover_of_tiledL (nmsRun c i arg1 harg1 arg2 harg2 arg3 harg3 arg4 harg4 arg5 harg5 arg6 harg6 arg7 harg7 arg8 harg8 x0 x1 x2 k1_hw1L).2.1 S1x128x1.size (by sl_kernel_rfl) y

/-- The stores into output 5 cover its block. -/
theorem covers5 (c : Dev nD) (i : grid1.Coords) (arg1 : Memref sig .tc .vmem S1x20000x8 .f32) (harg1 : arg1.IsWhole) (arg2 : Memref sig .tc .smem S1x1x1024 .i32) (harg2 : arg2.IsWhole) (arg3 : Memref sig .tc .vmem S1x1x1024 .f32) (harg3 : arg3.IsWhole) (arg4 : Memref sig .tc .vmem S1x256x7 .f32) (harg4 : arg4.IsWhole) (arg5 : Memref sig .tc .vmem S1x256x1 .f32) (harg5 : arg5.IsWhole) (arg6 : Memref sig .tc .vmem S1x256x1 .i32) (harg6 : arg6.IsWhole) (arg7 : Memref sig .tc .vmem S1024x8 .f32) (harg7 : arg7.IsWhole) (arg8 : Memref sig .tc .vmem S1024x1024 .f32) (harg8 : arg8.IsWhole)
    (x0 : Vec F S1x20000x8 .f32) (x1 : Vec F S1x1x1024 .i32) (x2 : Vec F S1x1x1024 .f32) (k1_hw1L : (∀ (kq : ℕ) (hkq : kq < k1_t1_loop.trips), k1_chk1 (arg2.view.readAt (Elt F) (Rect.unit (s := S1x1x1024) (k1_off1 ⟨kq, hkq⟩) S1x1x1.size (k1_off1_inb ⟨kq, hkq⟩)).toLoadRect (harg2.unread x1) (Shape.Idx.first (numel1_S1x1x1.symm ▸ Nat.one_pos))))) (y : S1x256x1.Idx) :
    ∃ pc ∈ (nmsRun c i arg1 harg1 arg2 harg2 arg3 harg3 arg4 harg4 arg5 harg5 arg6 harg6 arg7 harg7 arg8 harg8 x0 x1 x2 k1_hw1L).2.2.1, y ∈ pc.1.set :=
  View.cover_of_tiledL (nmsRun c i arg1 harg1 arg2 harg2 arg3 harg3 arg4 harg4 arg5 harg5 arg6 harg6 arg7 harg7 arg8 harg8 x0 x1 x2 k1_hw1L).2.2.1 S1x128x1.size (by sl_kernel_rfl) y

/-- The body's run at point `t`. -/
abbrev runAt (W : Dev nD → Valuation τ sig (Elt F)) (hH : RowsOk W) (c : Dev nD) (t : Fin cfg1.N) :=
  nmsRun c (grid1.coords t) (mr0 t) (wh0 t) (mr1 t) (wh1 t) (mr2 t) (wh2 t) (mr3 t) (wh3 t) (mr4 t) (wh4 t) (mr5 t) (wh5 t) scA (Memref.isWhole_whole _) scB (Memref.isWhole_whole _) (iblk1 W c 0 t) (iblk1 W c 1 t) (iblk1 W c 2 t) (hH c t)

/-- What the body leaves in output 3's block at point `t`. -/
def left3 (W : Dev nD → Valuation τ sig (Elt F)) (hH : RowsOk W) (c : Dev nD) (t : Fin cfg1.N) : Vec F S1x256x7 .f32 :=
  vo3.read (Elt F) (vo3.writes (Elt F) vo3.junk (runAt W hH c t).1)
/-- What the body leaves in output 4's block at point `t`. -/
def left4 (W : Dev nD → Valuation τ sig (Elt F)) (hH : RowsOk W) (c : Dev nD) (t : Fin cfg1.N) : Vec F S1x256x1 .f32 :=
  vo4.read (Elt F) (vo4.writes (Elt F) vo4.junk (runAt W hH c t).2.1)
/-- What the body leaves in output 5's block at point `t`. -/
def left5 (W : Dev nD → Valuation τ sig (Elt F)) (hH : RowsOk W) (c : Dev nD) (t : Fin cfg1.N) : Vec F S1x256x1 .i32 :=
  vo5.read (Elt F) (vo5.writes (Elt F) vo5.junk (runAt W hH c t).2.2.1)

/-- The suppression region's proof data over the contents `W` it finds. -/
def dat1 (W : Dev nD → Valuation τ sig (Elt F)) (hH : RowsOk W) (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => left3 W hH c t
    | ⟨4, _⟩ => left4 W hH c t
    | ⟨5, _⟩ => left5 W hH c t
  Φ _ := Pipeline.ΦA spec1 c
  q _ := fullShare
  owed _ := 0

section

variable (W : Dev nD → Valuation τ sig (Elt F)) (hH : RowsOk W) (c : Dev nD)

theorem dat1_A (w : Fin cfg1.W) : (dat1 W hH c).A w = W c (Proc.devRef .tc (Pipeline.arrRef spec1 w)) := by
  dsimp only [dat1]
theorem dat1_after0 (t : Fin cfg1.N) : (dat1 W hH c).after 0 t = iblk1 W c 0 t := by dsimp only [dat1]
theorem dat1_after1 (t : Fin cfg1.N) : (dat1 W hH c).after 1 t = iblk1 W c 1 t := by dsimp only [dat1]
theorem dat1_after2 (t : Fin cfg1.N) : (dat1 W hH c).after 2 t = iblk1 W c 2 t := by dsimp only [dat1]
theorem dat1_after3 (t : Fin cfg1.N) : (dat1 W hH c).after 3 t = left3 W hH c t := by dsimp only [dat1]
theorem dat1_after4 (t : Fin cfg1.N) : (dat1 W hH c).after 4 t = left4 W hH c t := by dsimp only [dat1]
theorem dat1_after5 (t : Fin cfg1.N) : (dat1 W hH c).after 5 t = left5 W hH c t := by dsimp only [dat1]
theorem dat1_before0 (t : Fin cfg1.N) (d) : (dat1 W hH c).before 0 t d = iblk1 W c 0 t :=
  held1_0 W (dat1 W hH c) (dat1_A W hH c 0) (dat1_after0 W hH c) t d
theorem dat1_before1 (t : Fin cfg1.N) (d) : (dat1 W hH c).before 1 t d = iblk1 W c 1 t :=
  held1_1 W (dat1 W hH c) (dat1_A W hH c 1) (dat1_after1 W hH c) t d
theorem dat1_before2 (t : Fin cfg1.N) (d) : (dat1 W hH c).before 2 t d = iblk1 W c 2 t :=
  held1_2 W (dat1 W hH c) (dat1_A W hH c 2) (dat1_after2 W hH c) t d

/-- What the body is called with at point `t`, the windows one by one. -/
def before1 (t : Fin cfg1.N) : sProp 𝕄 :=
  iprop((dat1 W hH c).Φ t.castSucc ∗ (dat1 W hH c).owesAt () t.castSucc
    ∗ (∃ d, owns (c : Thread nD τ) (mr0 t) fullShare ((dat1 W hH c).before 0 t d))
    ∗ (∃ d, owns (c : Thread nD τ) (mr1 t) fullShare ((dat1 W hH c).before 1 t d))
    ∗ (∃ d, owns (c : Thread nD τ) (mr2 t) fullShare ((dat1 W hH c).before 2 t d))
    ∗ (∃ d, owns (c : Thread nD τ) (mr3 t) fullShare ((dat1 W hH c).before 3 t d))
    ∗ (∃ d, owns (c : Thread nD τ) (mr4 t) fullShare ((dat1 W hH c).before 4 t d))
    ∗ (∃ d, owns (c : Thread nD τ) (mr5 t) fullShare ((dat1 W hH c).before 5 t d)))

/-- What the body returns at point `t`. -/
def after1 (t : Fin cfg1.N) : sProp 𝕄 :=
  iprop((dat1 W hH c).Φ t.succ ∗ (dat1 W hH c).owesAt () t.succ
    ∗ owns (c : Thread nD τ) (mr0 t) fullShare ((dat1 W hH c).after 0 t)
    ∗ owns (c : Thread nD τ) (mr1 t) fullShare ((dat1 W hH c).after 1 t)
    ∗ owns (c : Thread nD τ) (mr2 t) fullShare ((dat1 W hH c).after 2 t)
    ∗ owns (c : Thread nD τ) (mr3 t) fullShare ((dat1 W hH c).after 3 t)
    ∗ owns (c : Thread nD τ) (mr4 t) fullShare ((dat1 W hH c).after 4 t)
    ∗ owns (c : Thread nD τ) (mr5 t) fullShare ((dat1 W hH c).after 5 t))

set_option maxHeartbeats 800000 in
/-- The body at any point. -/
theorem body1_sound (t : Fin cfg1.N) :
    before1 W hH c t ⊢ wp frame (wpE (defs₀ (F := F)) Variants.none c none) Set.univ (bodyAt1 t) (fun _ => after1 W hH c t) := by
  unfold before1 after1 bodyAt1
  simp only [dat1_before0, dat1_before1, dat1_before2]
  rw [show (dat1 W hH c).Φ t.succ = (dat1 W hH c).Φ t.castSucc from rfl,
    show (dat1 W hH c).owesAt () t.succ = (dat1 W hH c).owesAt () t.castSucc from rfl,
    dat1_after0, dat1_after1, dat1_after2, dat1_after3, dat1_after4, dat1_after5]
  rw [show (dat1 W hH c).Φ t.castSucc = Pipeline.ΦA spec1 c from rfl]
  unfold left3 left4 left5
  iintro ⟨HΦ, Ho, ⟨%d0, H0⟩, ⟨%d1, H1⟩, ⟨%d2, H2⟩, ⟨%d3, H3⟩, ⟨%d4, H4⟩, ⟨%d5, H5⟩⟩
  ihave HΦ' := (inv1_split (F := F) c) $$ HΦ
  icases HΦ' with ⟨Hoth, HS0, HS1, Hg⟩
  iapply ((runAt W hH c t).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, ⟨%e3, H3⟩, ⟨%e4, H4⟩, ⟨%e5, H5⟩, HS0, HS1⟩
  isplitl [HS0 HS1 Hg Hoth]
  · iapply (inv1_join (F := F) c)
    isplitl [Hoth]; · iexact Hoth
    isplitl [HS0]; · iexact HS0
    isplitl [HS1]; · iexact HS1
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (covers3 c _ _ _ _ _ _ _ _ _ _ _ _ _ _ _ _ _ _ _ _ _)
  isplitl [H4]
  · unfold owns; iexists _; isplitr
    swap; · iexact H4
    ipureintro; exact View.read_writes_of_cover _ _ _ _ _ (covers4 c _ _ _ _ _ _ _ _ _ _ _ _ _ _ _ _ _ _ _ _ _)
  unfold owns; iexists _; isplitr
  swap; · iexact H5
  ipureintro; exact View.read_writes_of_cover _ _ _ _ _ (covers5 c _ _ _ _ _ _ _ _ _ _ _ _ _ _ _ _ _ _ _ _ _)

theorem row1 (t : Fin cfg1.N) :
    defs₀ (F := F) .tc cfg1.body (cfg1.bodyArgs t (cfg1.slots t)) = bodyAt1 t := by
  unfold defs₀; rw [Defs.onTc_tc]

/-- The body obligation of the suppression region. -/
theorem obligation1 : BodyObligation (dat1 (F := F) W hH c) (defs₀ (F := F)) Variants.none () Set.univ := fun t => by
  rw [bigSep_W1, bigSep_W1, row1]
  exact triple_restated (body1_sound W hH c t) rfl .rfl fun _ => .rfl

end

end Cert.KernelIdeal.Pf

end
-- ==== Proof.KernelIdealMain.lean ====
/- The whole program: what each region leaves, the two regions' records, and the run of the program with its three results
   at named contents, its arguments unchanged and every counter at zero. -/
module

public import proofs.«01_k».proof.Proof.KernelIdealScore
public import proofs.«01_k».proof.Proof.KernelIdealNms
public import proofs.«01_k».proof.Proof.Gen.KernelIdeal.Regions
public import Idealize.ShloMosaic.Lib.Pipeline.RegionArraysS
public import Idealize.ShloMosaic.Lib.SortFacts
public import Idealize.ShloMosaic.Lib.StableHlo.RunRead
public import Idealize.ShloMosaic.Lib.StableHlo.RunClose

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg afterRegion)

variable {F : FTy → Type} [FloatOps F]

local notation "𝕄" => MT nD τ sig Unit (Elt F) ℕ (UR sig nD τ) ℕ

variable (m : (ℓ : Loc nD τ sig) → Buf (Elt F) ℓ)

/-- What the score region leaves (its data over what the first host line leaves). -/
def outsA : Outs (F := F) := fun _ r c => afterRegion (dat0 (V1 m) c) (V1 m c) (Proc.devRef .tc r)

/-- The contents the suppression region finds. -/
abbrev W3 (c : Dev nD) : Valuation τ sig (Elt F) := V3 m (outsA m) c

/-! ## The row numbers are in range -/

/-- Every word of a sort's index result is a position of the sorted axis. -/
theorem topK_index_lt (x : Vec F S4x20000 .f32) (y : S4x1024.Idx) :
    ((Host.topK S4x1024 1 (FloatOps.cmpfTotal .gt) x sliceFits_S4x20000_S4x1024).2 y).toNat < 20000 := by
  unfold Host.topK Host.sort2
  have hd : (1 : ℕ) < S4x20000.rank := by decide
  simp only [dif_pos hd]
  show (BitVec.ofNat 32 _).toNat < 20000
  rw [BitVec.toNat_ofNat]
  refine lt_of_le_of_lt (Nat.mod_le _ _) ?_
  exact Fin.isLt _

/-- The row numbers the suppression region finds: the sort's index result, reshaped. -/
theorem W3_rows (c : Dev nD) : W3 m c (Proc.devRef .tc main_call0_v6) = shapeCast S4x1x1024
    (Host.topK S4x1024 1 (FloatOps.cmpfTotal .gt) (shapeCast S4x20000 (outsA m 2 main_call0_v1_0 c) shapeCasts_S4x1x20000_S4x20000) sliceFits_S4x20000_S4x1024).2 shapeCasts_S4x1024_S4x1x1024 := by
  unfold W3 V3 hostOps1
  after_results_entrywise [cast_eq]

/-- The sorted scores the suppression region finds. -/
theorem W3_scores (c : Dev nD) : W3 m c (Proc.devRef .tc main_call0_v7) = shapeCast S4x1x1024
    (Host.topK S4x1024 1 (FloatOps.cmpfTotal .gt) (shapeCast S4x20000 (outsA m 2 main_call0_v1_0 c) shapeCasts_S4x1x20000_S4x20000) sliceFits_S4x20000_S4x1024).1 shapeCasts_S4x1024_S4x1x1024 := by
  unfold W3 V3 hostOps1
  after_results_entrywise [cast_eq]

/-- The table of boxes and labels the suppression region finds. -/
theorem W3_table (c : Dev nD) : W3 m c (Proc.devRef .tc main_call0_v5) = concatenate S4x20000x8 2
    [⟨S4x20000x7, m ((c : Thread nD τ).loc main_arg1)⟩, ⟨S4x20000x1, broadcastInDim S4x20000x1 ![0, 1] bcast_S4x20000_S4x20000x1_0_1
      (shapeCast S4x20000 (outsA m 2 main_call0_v1_1 c) shapeCasts_S4x1x20000_S4x20000)⟩] concatenates_S4x20000x7_S4x20000x1_S4x20000x8_d2 := by
  unfold W3 V3 hostOps1
  after_results_entrywise [cast_eq]

/-- A word below the number of rows is a row number. -/
theorem rowOk (w : BitVec 32) (h : w.toNat < 20000) : k1_chk1 w := by
  intro a
  unfold k1_off2
  match a with
  | ⟨0, _⟩ => show 0 + 1 ≤ 1; omega
  | ⟨1, _⟩ => show w.toNat + 1 ≤ 20000; omega
  | ⟨2, _⟩ => show 0 + 8 ≤ 8; omega

/-- A word of the block of row numbers is below the number of rows. -/
theorem rows_lt (c : Dev nD) (t : Fin cfg1.N) (i) : (show BitVec 32 from iblk1 (W3 m) c 1 t i).toNat < 20000 := by
  unfold iblk1
  show (W3 m c (Proc.devRef .tc main_call0_v6) _ : BitVec 32).toNat < 20000
  rw [W3_rows]
  exact topK_index_lt _ _

theorem rowsOk : RowsOk (W3 m) := by
  intro c t kq hkq
  rw [View.readAt_apply, Memref.IsWhole.read_unread]
  exact rowOk _ (rows_lt m c t _)

/-! ## The proof data, the levels and the regions' records -/

/-- What the suppression region leaves. -/
def outsB : Outs (F := F) := fun J r c =>
  match J with
  | 2 => outsA m 2 r c
  | _ => afterRegion (dat1 (W3 m) (rowsOk m) c) (W3 m c) (Proc.devRef .tc r)

/-- The proof data of the two pipelines. -/
def dats : (p : Fin 2) → (c : Dev nD) → Dat τ (Elt F) Unit ℕ (UR sig nD τ) ℕ (cfgs p) c
  | 0, c => dat0 (V1 m) c
  | 1, c => dat1 (W3 m) (rowsOk m) c
  | ⟨_ + 2, h⟩, _ => absurd h (Nat.not_lt.2 (Nat.le_add_left _ _))

/-- One level for every counter of a TensorCore. -/
abbrev LL : GSem nD τ sig → Finset Unit := fun g => if g.1.2 = .tc then {()} else ∅
abbrev lvl : GSem nD τ sig → Unit → ℕ := fun _ _ => 0

theorem cut (p : Fin 2) : Pipeline.LevelCut (pcfgs (F := F)) adm () LL lvl p (fun _ => 0) (fun _ => 0) where
  hι c w s := by
    show () ∈ (if ((c : Thread nD τ), _).1.2 = _ then ({()} : Finset Unit) else ∅)
    rw [if_pos rfl]; exact Finset.mem_singleton_self _
  hιb _ _ _ := Nat.le_refl 0
  hD _ _ _ h := absurd h (lt_irrefl 0)

/-- The generator register at some value. -/
abbrev gen (c : Dev nD) : sProp 𝕄 := iprop(∃ r, prngReg c r)

/-- What rides beside the buffers between two items. -/
abbrev rest : Fin 3 → Dev nD → sProp 𝕄 := fun _ c =>
  iprop((∃ Wd, owes (c : Thread nD τ) (0 : CellTallies nD τ sig Unit) Wd) ∗ gen c ∗ emp)

theorem inUc0 : Pipeline.arrRefs (pcfgs (F := F) 0).spec ⊆ Pipeline.ucRefs τ sig :=
  Pipeline.arrRefs_sub_ucRefs _ (show ∀ w, (Pipeline.arrRef spec0 w).isScoped = false by decide)
theorem inUc1 : Pipeline.arrRefs (pcfgs (F := F) 1).spec ⊆ Pipeline.ucRefs τ sig :=
  Pipeline.arrRefs_sub_ucRefs _ (show ∀ w, (Pipeline.arrRef spec1 w).isScoped = false by decide)

/-- The score region's record. -/
def seg0 : RegionSeg (pcfgs (F := F)) adm (dats m) () defs₀ Variants.none LL lvl 0 :=
  RegionSeg.ofHeldIn (pcfgs (F := F)) adm (dats m) () defs₀ Variants.none LL lvl 0 (fun _ => 0) (Pipeline.ucRefs τ sig) gen gen
    launch0.toP rfl (fun c => (obligation0 (V1 m) c).loose) (fun _ _ => rfl) (fun _ => rfl)
    (fun c => (dat0 (V1 m) c).share_full fun _ => rfl) (fun _ => .rfl) (fun _ => .rfl) (fun _ => 0) (cut 0) (fun _ => iprop(emp))
    (V1 m) (fun c w => dat0_A (V1 m) c w)

/-- The suppression region's record. -/
def seg1 : RegionSeg (pcfgs (F := F)) adm (dats m) () defs₀ Variants.none LL lvl 1 :=
  RegionSeg.ofHeldIn (pcfgs (F := F)) adm (dats m) () defs₀ Variants.none LL lvl 1 (fun _ => 0) (Pipeline.ucRefs τ sig) gen gen
    launch1.toP rfl (fun c => (obligation1 (W3 m) (rowsOk m) c).loose) (fun _ _ => rfl) (fun _ => rfl)
    (fun c => (dat1 (W3 m) (rowsOk m) c).share_full fun _ => rfl) (fun _ => .rfl) (fun _ => .rfl) (fun _ => 0) (cut 1) (fun _ => iprop(emp))
    (W3 m) (fun c w => dat1_A (W3 m) (rowsOk m) c w)

/-! ## What a region leaves, as the next item's contents -/

/-- A buffer no output window of the score region stages is as it was. -/
theorem keep0 (c : Dev nD) (r : Ref sig .tc) (h : ∀ w, Pipeline.arrRef spec0 w = r → (cfg0.win w).isOut = false) :
    afterRegion (dat0 (V1 m) c) (V1 m c) (Proc.devRef .tc r) = V1 m c (Proc.devRef .tc r) :=
  Pipeline.afterRegion_keeps _ _ winFacts0.arr_inj (dat0_A (V1 m) c) r h

theorem keep1 (c : Dev nD) (r : Ref sig .tc) (h : ∀ w, Pipeline.arrRef spec1 w = r → (cfg1.win w).isOut = false) :
    afterRegion (dat1 (W3 m) (rowsOk m) c) (W3 m c) (Proc.devRef .tc r) = W3 m c (Proc.devRef .tc r) :=
  Pipeline.afterRegion_keeps _ _ winFacts1.arr_inj (dat1_A (W3 m) (rowsOk m) c) r h

theorem out0 : ∀ (r : Ref sig .tc), r ∉ ([main_call0_v1_0, main_call0_v1_1] : List (Ref sig .tc)) →
    ∀ w, Pipeline.arrRef spec0 w = r → (cfg0.win w).isOut = false := by
  intro r hr w hw
  subst hw
  revert w
  decide
theorem out1 : ∀ (r : Ref sig .tc), r ∉ ([main_v0_0, main_call0_v8_1, main_call0_v8_2] : List (Ref sig .tc)) →
    ∀ w, Pipeline.arrRef spec1 w = r → (cfg1.win w).isOut = false := by
  intro r hr w hw
  subst hw
  revert w
  decide

theorem left0 (c : Dev nD) (b : DevRef τ sig) (hb : b ∈ Pipeline.ucRefs τ sig) :
    afterRegion (dat0 (V1 m) c) (V1 m c) b = V2 m (outsB m) c b := by
  obtain ⟨r, rfl⟩ : ∃ r : Ref sig .tc, b = Proc.devRef .tc r := by
    obtain ⟨r, -, e⟩ := Finset.mem_map.mp (Finset.mem_filter.mp hb).1
    exact ⟨r, e.symm⟩
  by_cases h : r ∈ ([main_call0_v1_0, main_call0_v1_1] : List (Ref sig .tc))
  · rcases List.mem_cons.mp h with rfl | h
    · refine Eq.symm ?_
      unfold V2
      rw [Function.update_of_ne (StableHlo.devRef_ne_of_ne (show main_call0_v1_0 ≠ main_call0_v1_1 by decide)), Function.update_self]; rfl
    · obtain rfl := List.mem_singleton.mp h
      refine Eq.symm ?_
      unfold V2
      rw [Function.update_self]; rfl
  · exact (keep0 m c r (out0 r h)).trans (V2_of m (outsB m) c r h).symm

theorem left1 (c : Dev nD) (b : DevRef τ sig) (hb : b ∈ Pipeline.ucRefs τ sig) :
    afterRegion (dat1 (W3 m) (rowsOk m) c) (W3 m c) b = V4 m (outsB m) c b := by
  obtain ⟨r, rfl⟩ : ∃ r : Ref sig .tc, b = Proc.devRef .tc r := by
    obtain ⟨r, -, e⟩ := Finset.mem_map.mp (Finset.mem_filter.mp hb).1
    exact ⟨r, e.symm⟩
  by_cases h : r ∈ ([main_v0_0, main_call0_v8_1, main_call0_v8_2] : List (Ref sig .tc))
  · rcases List.mem_cons.mp h with rfl | h
    · refine Eq.symm ?_
      unfold V4
      rw [Function.update_of_ne (StableHlo.devRef_ne_of_ne (show main_v0_0 ≠ main_call0_v8_2 by decide)), Function.update_of_ne (StableHlo.devRef_ne_of_ne (show main_v0_0 ≠ main_call0_v8_1 by decide)), Function.update_self]; rfl
    rcases List.mem_cons.mp h with rfl | h
    · refine Eq.symm ?_
      unfold V4
      rw [Function.update_of_ne (StableHlo.devRef_ne_of_ne (show main_call0_v8_1 ≠ main_call0_v8_2 by decide)), Function.update_self]; rfl
    · obtain rfl := List.mem_singleton.mp h
      refine Eq.symm ?_
      unfold V4
      rw [Function.update_self]; rfl
  · exact (keep1 m c r (out1 r h)).trans (V4_of m (outsB m) c r h).symm

/-! ## The run -/

theorem V3_same (c : Dev nD) : V3 m (outsB m) c = W3 m c :=
  congrArg (StableHlo.after hostOps1) (show V2 m (outsB m) c = V2 m (outsA m) c from rfl)

theorem seg0_in (c : Dev nD) : iprop(StableHlo.held (c : Thread nD τ) (Pipeline.ucRefs τ sig) (V1 m c) ∗ rest (F := F) 0 c) ⊢ (seg0 m).pre c := by
  unfold seg0
  exact RegionSeg.ofHeldIn_pre (D := fun _ => 0) (X := gen) (R := fun _ => iprop(emp)) (W := V1 m) inUc0 c
theorem seg0_out (c : Dev nD) : (seg0 m).post c ⊢ iprop(StableHlo.held (c : Thread nD τ) (Pipeline.ucRefs τ sig) (V2 m (outsB m) c) ∗ rest (F := F) 1 c) := by
  rw [← StableHlo.held_congr (c.tc : Thread nD τ) (S := Pipeline.ucRefs τ sig) (left0 m c)]
  unfold seg0
  exact RegionSeg.ofHeldIn_post (D := fun _ => 0) (Y := gen) (R := fun _ => iprop(emp)) (W := V1 m) inUc0 c
theorem seg1_in (c : Dev nD) : iprop(StableHlo.held (c : Thread nD τ) (Pipeline.ucRefs τ sig) (V3 m (outsB m) c) ∗ rest (F := F) 1 c) ⊢ (seg1 m).pre c := by
  rw [V3_same]
  unfold seg1
  exact RegionSeg.ofHeldIn_pre (D := fun _ => 0) (X := gen) (R := fun _ => iprop(emp)) (W := W3 m) inUc1 c
theorem seg1_out (c : Dev nD) : (seg1 m).post c ⊢ iprop(StableHlo.held (c : Thread nD τ) (Pipeline.ucRefs τ sig) (V4 m (outsB m) c) ∗ rest (F := F) 2 c) := by
  rw [← StableHlo.held_congr (c.tc : Thread nD τ) (S := Pipeline.ucRefs τ sig) (left1 m c)]
  unfold seg1
  exact RegionSeg.ofHeldIn_post (D := fun _ => 0) (Y := gen) (R := fun _ => iprop(emp)) (W := W3 m) inUc1 c

theorem uc (r : Ref sig .tc) (h : r.isScoped = false) : (Proc.devRef .tc r : DevRef τ sig) ∈ Pipeline.ucRefs τ sig :=
  Finset.mem_filter.mpr ⟨StableHlo.devRef_mem_tcRefs r, by rw [Proc.isScoped_devRef, h]; exact Bool.false_ne_true⟩

set_option backward.isDefEq.respectTransparency.types false in
/-- The run of the program: every unscoped buffer ends at the last valuation, and every counter at zero. -/
theorem run_all (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = V5 m (outsB m) c b) ∧ r.2.sem = fun _ => 0) := by
  refine Pipeline.θ_run_regions_kit_dev_sems (pcfgs (F := F)) adm (dats m) () cellOf_inj emb₁ defs₀ Variants.none LL lvl m ρ main
    (segs m (outsB m) Variants.none LL lvl (rest (F := F)) () (dats m) (seg0 m) (seg1 m))
    (fun c Q => by
      rewrite [main_chain c, Seg.run_eq_chain,
        show (segs m (outsB m) Variants.none LL lvl (rest (F := F)) () (dats m) (seg0 m) (seg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) (fun _ => 0) (fun g h => if_neg h)
    (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest (F := F) 0 c))
    (Tₙ := fun c => StableHlo.held (c : Thread nD τ) (Pipeline.ucRefs τ sig) (V5 m (outsB m) c))
    (hch := fun c => ⟨.rfl, seg0_in m c, seg0_out m c, seg1_in m c, seg1_out m c, sep_mono .rfl (by
      iintro ⟨HO, -, -⟩; iexact HO)⟩)
    (hinit := by
      refine Pipeline.initEach LL lvl fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [HO]; · iexists _; iexact HO
      isplitl [Hp]; · iexists _; iexact Hp
      iempintro)
    (QY := fun c s => ∀ b ∈ Pipeline.ucRefs τ sig, s.mem ((c.tc : Thread nD τ).1, b) = V5 m (outsB m) c b)
    (hfin := fun c s' => by
      unfold StableHlo.held
      iintro ⟨Hh, HSI⟩
      ihave Hr := (pointsTo_read_all (Pipeline.ucRefs τ sig) (fun b => ((c.tc : Thread nD τ).1, b)) (V5 m (outsB m) c) s') $$ [Hh HSI]
      · isplitl [Hh] <;> iassumption
      imodintro; iexact Hr)
    (hQ := fun _ h hz => ⟨h, funext fun g => hz g (.inr (regions_no_unscoped g.2))⟩)

/-- The run with its three results, its arguments and the counters. -/
theorem run_results (ρ : Dev nD → PrngReg) :
    θ_run defs (onTc (τ := τ) (main (F := F))) ⟨m, fun _ => 0, ρ⟩ (fun r => (∀ c : Dev nD,
      r.2.mem ((c.tc : Thread nD τ).loc main_v0_0) = V5 m (outsB m) c (Proc.devRef .tc main_v0_0)
      ∧ r.2.mem ((c.tc : Thread nD τ).loc main_v0_1) = V5 m (outsB m) c (Proc.devRef .tc main_v0_1)
      ∧ r.2.mem ((c.tc : Thread nD τ).loc main_v0_2) = V5 m (outsB m) c (Proc.devRef .tc main_v0_2)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨h.1 c _ (uc main_v0_0 (by decide)), h.1 c _ (uc main_v0_1 (by decide)), h.1 c _ (uc main_v0_2 (by decide)),
    (h.1 c _ (uc main_arg0 (by decide))).trans (V5_main_arg0 m (outsB m) c),
    (h.1 c _ (uc main_arg1 (by decide))).trans (V5_main_arg1 m (outsB m) c)⟩, h.2⟩) (run_all m ρ)

end Cert.KernelIdeal.Pf

end
-- ==== Proof.RefRun.lean ====
/- The reference's run: its arguments end unchanged and every counter at zero. -/
module

public import proofs.«01_k».proof.Proof.Gen.ReferenceIdeal.Run
public import Idealize.ShloMosaic.Lib.StableHlo.RunClose
public import Idealize.ShloMosaic.Lib.Quiescent
public import Idealize.ShloMosaic.Lib.Claim

@[expose] public section

set_option maxRecDepth 100000

noncomputable section

namespace Cert.ReferenceIdeal.Pf

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- A buffer the loop does not write is, after the loop's trips, as the loop finds it. -/
theorem loop_keeps (c : Dev nD) (r : Ref sig .tc) (hc : r ∉ condOps_W) (hb : r ∉ while0Ops0_W) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0 _ while0Ops0_writes hb, after_of_writes_sub condOps _ condOps_writes hc]
    exact loop_keeps c r hc hb k

theorem pre_arg0 (c : Dev nD) : entryContents preI m c (Proc.devRef .tc main_arg0) = m ((c.tc : Thread nD τ).loc main_arg0) := by
  simp only [entryContents, afterL_cons, afterL_nil]
  after_reads_simp
theorem pre_arg1 (c : Dev nD) : entryContents preI m c (Proc.devRef .tc main_arg1) = m ((c.tc : Thread nD τ).loc main_arg1) := by
  simp only [entryContents, afterL_cons, afterL_nil]
  after_reads_simp
theorem post_arg0 (V : Valuation τ sig (Elt F)) : afterL postI V (Proc.devRef .tc main_arg0) = V (Proc.devRef .tc main_arg0) := by
  simp only [afterL_cons, afterL_nil]
  after_reads_simp
theorem post_arg1 (V : Valuation τ sig (Elt F)) : afterL postI V (Proc.devRef .tc main_arg1) = V (Proc.devRef .tc main_arg1) := by
  simp only [afterL_cons, afterL_nil]
  after_reads_simp

theorem final_arg0 (c : Dev nD) : finalContents condOps preI bodyI postI 1024 m c (Proc.devRef .tc main_arg0) = m ((c.tc : Thread nD τ).loc main_arg0) := by
  rw [finalContents, post_arg0, after_of_writes_sub condOps _ condOps_writes (by decide)]
  exact (loop_keeps m c main_arg0 (by decide) (by decide) 1024).trans (pre_arg0 m c)
theorem final_arg1 (c : Dev nD) : finalContents condOps preI bodyI postI 1024 m c (Proc.devRef .tc main_arg1) = m ((c.tc : Thread nD τ).loc main_arg1) := by
  rw [finalContents, post_arg1, after_of_writes_sub condOps _ condOps_writes (by decide)]
  exact (loop_keeps m c main_arg1 (by decide) (by decide) 1024).trans (pre_arg1 m c)

/-- The reference's frame: its arguments end unchanged and every counter at zero. -/
theorem frame_ref : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c main_arg0 rfl).trans (final_arg0 m c), (h c main_arg1 rfl).trans (final_arg1 m c)⟩,
    sem_eq_zero_of_no_sems (by decide) r.2⟩) (run_fold m ρ)

end Cert.ReferenceIdeal.Pf

end
-- ==== Proof.KernelIdealStage.lean ====
/- The second kernel's body as stages: the column turned into a row, the table of pairs that suppress each other, the greedy
   loop's trip, the rank of each score and the picks by rank. What the body's run leaves is these stages, by unfolding. -/
module

public import proofs.«01_k».proof.Proof.KernelIdealNmsRun

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

/-- The number of each lane. -/
abbrev laneNo : IVec S128x1024 32 := iota .tc S128x1024 32 [1] iota_S128x1024_d1_w32
/-- The number of each row of the chunk that starts at `b`. -/
abbrev rowNo (b : BitVec 32) : IVec S128x1024 32 := addi (iota .tc S128x1024 32 [0] iota_S128x1024_d0_w32) (broadcast S128x1024 b)

/-- One chunk of a column laid along the lanes, zero elsewhere. -/
def turnPart (b : BitVec 32) (o : Fin 2 → ℕ) (h : S1024x1.Slices o S128x1) (v : FVec F S1024x1 .f32) : FVec F S1x1024 .f32 :=
  shapeCast S1x1024 (multiReduction .add [0] S1024 (select (cmpi .eq (rowNo b) laneNo)
    (broadcastTo S128x1024 (shapeCast S128x1 (extractStridedSlice S128x1 o v h) shapeCasts_S128x1_S128x1) broadcasts_S128x1_S128x1024)
    (broadcast S128x1024 (Scalar.ofBits .f32 0x00000000#32))) 0x00000000#32 reduces_S128x1024_S1024 (.inl rfl) rfl) shapeCasts_S1024_S1x1024

/-- A column as a row, chunk by chunk. -/
def turn (v : FVec F S1024x1 .f32) : FVec F S1x1024 .f32 :=
  (addf (addf (addf (addf (addf (addf (addf (addf (broadcast S1x1024 (Scalar.ofBits .f32 0x00000000#32)) (turnPart 0#32 ![0, 0] slices_S1024x1_o0_0_S128x1 v)) (turnPart 128#32 ![128, 0] slices_S1024x1_o128_0_S128x1 v)) (turnPart 256#32 ![256, 0] slices_S1024x1_o256_0_S128x1 v)) (turnPart 384#32 ![384, 0] slices_S1024x1_o384_0_S128x1 v)) (turnPart 512#32 ![512, 0] slices_S1024x1_o512_0_S128x1 v)) (turnPart 640#32 ![640, 0] slices_S1024x1_o640_0_S128x1 v)) (turnPart 768#32 ![768, 0] slices_S1024x1_o768_0_S128x1 v)) (turnPart 896#32 ![896, 0] slices_S1024x1_o896_0_S128x1 v))

/-- A chunk of a column along the rows. -/
abbrev colOf (o : Fin 2 → ℕ) (h : S1024x1.Slices o S128x1) (v : FVec F S1024x1 .f32) : FVec F S128x1024 .f32 :=
  broadcastTo S128x1024 (extractStridedSlice S128x1 o v h) broadcasts_S128x1_S128x1024
/-- A row along the columns. -/
abbrev rowOf (v : FVec F S1x1024 .f32) : FVec F S128x1024 .f32 := broadcastTo S128x1024 v broadcasts_S1x1024_S128x1024
/-- A number everywhere. -/
abbrev allOf (b : BitVec 32) : FVec F S128x1024 .f32 := broadcast S128x1024 (Scalar.ofBits .f32 b)

/-- The overlap of each pair, of one chunk of rows. -/
def interPart (o : Fin 2 → ℕ) (h : S1024x1.Slices o S128x1) (x1 x2 y1 y2 : FVec F S1024x1 .f32) (rx1 rx2 ry1 ry2 : FVec F S1x1024 .f32) : FVec F S128x1024 .f32 :=
  mulf (maximumf (subf (minimumf (colOf o h x2) (rowOf rx2)) (maximumf (colOf o h x1) (rowOf rx1))) (allOf 0x00000000#32))
    (maximumf (subf (minimumf (colOf o h y2) (rowOf ry2)) (maximumf (colOf o h y1) (rowOf ry1))) (allOf 0x00000000#32))

/-- The pairs of one chunk of rows in which the row's box suppresses the lane's: one where it does, zero elsewhere. -/
def pairPart (b : BitVec 32) (o : Fin 2 → ℕ) (h : S1024x1.Slices o S128x1) (x1 x2 y1 y2 ar : FVec F S1024x1 .f32) (rx1 rx2 ry1 ry2 rar : FVec F S1x1024 .f32) : FVec F S128x1024 .f32 :=
  shapeCast S128x1024 (select (andi (cmpf .ogt (divf (interPart o h x1 x2 y1 y2 rx1 rx2 ry1 ry2)
      (maximumf (subf (addf (colOf o h ar) (rowOf rar)) (interPart o h x1 x2 y1 y2 rx1 rx2 ry1 ry2)) (allOf 0x358637BD#32))) (allOf 0x3F000000#32))
    (cmpi .sgt laneNo (rowNo b))) (allOf 0x3F800000#32) (allOf 0x00000000#32)) shapeCasts_S128x1024_S128x1024

/-- The whole table's pieces, last stored first. -/
def pairs (x1 x2 y1 y2 ar : FVec F S1024x1 .f32) : List (View.Piece (Elt F) S1024x1024 .f32) :=
  [⟨Rect.unit ![896, 0] S128x1024.size inb_S1024x1024_S128x1024_896_0, pairPart 896#32 ![896, 0] slices_S1024x1_o896_0_S128x1 x1 x2 y1 y2 ar (turn x1) (turn x2) (turn y1) (turn y2) (turn ar)⟩,
   ⟨Rect.unit ![768, 0] S128x1024.size inb_S1024x1024_S128x1024_768_0, pairPart 768#32 ![768, 0] slices_S1024x1_o768_0_S128x1 x1 x2 y1 y2 ar (turn x1) (turn x2) (turn y1) (turn y2) (turn ar)⟩,
   ⟨Rect.unit ![640, 0] S128x1024.size inb_S1024x1024_S128x1024_640_0, pairPart 640#32 ![640, 0] slices_S1024x1_o640_0_S128x1 x1 x2 y1 y2 ar (turn x1) (turn x2) (turn y1) (turn y2) (turn ar)⟩,
   ⟨Rect.unit ![512, 0] S128x1024.size inb_S1024x1024_S128x1024_512_0, pairPart 512#32 ![512, 0] slices_S1024x1_o512_0_S128x1 x1 x2 y1 y2 ar (turn x1) (turn x2) (turn y1) (turn y2) (turn ar)⟩,
   ⟨Rect.unit ![384, 0] S128x1024.size inb_S1024x1024_S128x1024_384_0, pairPart 384#32 ![384, 0] slices_S1024x1_o384_0_S128x1 x1 x2 y1 y2 ar (turn x1) (turn x2) (turn y1) (turn y2) (turn ar)⟩,
   ⟨Rect.unit ![256, 0] S128x1024.size inb_S1024x1024_S128x1024_256_0, pairPart 256#32 ![256, 0] slices_S1024x1_o256_0_S128x1 x1 x2 y1 y2 ar (turn x1) (turn x2) (turn y1) (turn y2) (turn ar)⟩,
   ⟨Rect.unit ![128, 0] S128x1024.size inb_S1024x1024_S128x1024_128_0, pairPart 128#32 ![128, 0] slices_S1024x1_o128_0_S128x1 x1 x2 y1 y2 ar (turn x1) (turn x2) (turn y1) (turn y2) (turn ar)⟩,
   ⟨Rect.unit ![0, 0] S128x1024.size inb_S1024x1024_S128x1024_0_0, pairPart 0#32 ![0, 0] slices_S1024x1_o0_0_S128x1 x1 x2 y1 y2 ar (turn x1) (turn x2) (turn y1) (turn y2) (turn ar)⟩]

/-- One chunk of a row laid along the rows of the chunk. -/
def backPart (b : BitVec 32) (s : FVec F S1x1024 .f32) : FVec F S128x1 .f32 :=
  shapeCast S128x1 (multiReduction .add [1] S128 (select (cmpi .eq (rowNo b) laneNo)
    (broadcastTo S128x1024 (shapeCast S1x1024 s shapeCasts_S1x1024_S1x1024) broadcasts_S1x1024_S128x1024)
    (allOf 0x00000000#32)) 0x00000000#32 reduces_S128x1024_S128 (.inl rfl) rfl) shapeCasts_S128_S128x1

/-- How many scores of one chunk come before each score. -/
def rankPart (b : BitVec 32) (s : FVec F S1x1024 .f32) : FVec F S1x1024 .f32 :=
  shapeCast S1x1024 (multiReduction .add [0] S1024 (sitofp .f32 (extui 32 (ori
      (cmpf .ogt (broadcastTo S128x1024 (backPart b s) broadcasts_S128x1_S128x1024) (rowOf s))
      (andi (cmpf .oeq (broadcastTo S128x1024 (backPart b s) broadcasts_S128x1_S128x1024) (rowOf s)) (cmpi .slt (rowNo b) laneNo))) natLt_1_32))
    0x00000000#32 reduces_S128x1024_S1024 (.inl rfl) rfl) shapeCasts_S1024_S1x1024

/-- How many scores come before each score. -/
def rank (s : FVec F S1x1024 .f32) : FVec F S1x1024 .f32 :=
  (addf (addf (addf (addf (addf (addf (addf (addf (broadcast S1x1024 (Scalar.ofBits .f32 0x00000000#32)) (rankPart 0#32 s)) (rankPart 128#32 s)) (rankPart 256#32 s)) (rankPart 384#32 s)) (rankPart 512#32 s)) (rankPart 640#32 s)) (rankPart 768#32 s)) (rankPart 896#32 s))

/-- Which box has each rank of the chunk of ranks that starts at `b`. -/
def hit (b : BitVec 32) (rk : FVec F S1x1024 .f32) : IVec S128x1024 1 := cmpf .oeq (rowOf rk) (sitofp .f32 (rowNo b))

/-- The rows of the boxes with the chunk's ranks. -/
def pickRows (b : BitVec 32) (rk : FVec F S1x1024 .f32) (g : Vec F S1024x8 .f32) : FVec F S128x8 .f32 :=
  matmul dot_S128x1024_S1024x8_S128x8_1_0_0_1_n_n none (sitofp .f32 (extui 32 (hit b rk) natLt_1_32)) g (constant S128x8 .f32 0x00000000#32)
/-- The scores with the chunk's ranks. -/
def pickScore (b : BitVec 32) (rk s : FVec F S1x1024 .f32) : FVec F S128x1 .f32 :=
  shapeCast S128x1 (multiReduction .add [1] S128 (select (hit b rk)
    (broadcastTo S128x1024 (shapeCast S1x1024 s shapeCasts_S1x1024_S1x1024) broadcasts_S1x1024_S128x1024)
    (allOf 0x00000000#32)) 0x00000000#32 reduces_S128x1024_S128 (.inl rfl) rfl) shapeCasts_S128_S128x1
/-- Whether the score with each of the chunk's ranks is above zero. -/
def pickPos (b : BitVec 32) (rk s : FVec F S1x1024 .f32) : IVec S128x1 1 :=
  cmpf .ogt (pickScore b rk s) (broadcast S128x1 (Scalar.ofBits .f32 0x00000000#32))

/-- What is stored for the boxes, the scores and the labels of a chunk of ranks. -/
def outBoxes (b : BitVec 32) (rk : FVec F S1x1024 .f32) (g : Vec F S1024x8 .f32) : FVec F S1x128x7 .f32 :=
  shapeCast S1x128x7 (extractStridedSlice S128x7 ![0, 0] (pickRows b rk g) slices_S128x8_o0_0_S128x7) shapeCasts_S128x7_S1x128x7
@[inherit_doc outBoxes]
def outScores (b : BitVec 32) (rk s : FVec F S1x1024 .f32) : FVec F S1x128x1 .f32 :=
  shapeCast S1x128x1 (select (pickPos b rk s) (pickScore b rk s) (broadcast S128x1 (Scalar.ofBits .f32 0x00000000#32))) shapeCasts_S128x1_S1x128x1
@[inherit_doc outBoxes]
def outLabels (b : BitVec 32) (rk s : FVec F S1x1024 .f32) (g : Vec F S1024x8 .f32) : IVec S1x128x1 32 :=
  shapeCast S1x128x1 (fptosi 32 (select (pickPos b rk s) (extractStridedSlice S128x1 ![0, 7] (pickRows b rk g) slices_S128x8_o0_7_S128x1)
    (broadcast S128x1 (Scalar.ofBits .f32 0x00000000#32)))) shapeCasts_S128x1_S1x128x1

section links
variable  (c : Dev nD) (i : grid1.Coords) (arg1 : Memref sig .tc .vmem S1x20000x8 .f32) (harg1 : arg1.IsWhole) (arg2 : Memref sig .tc .smem S1x1x1024 .i32) (harg2 : arg2.IsWhole) (arg3 : Memref sig .tc .vmem S1x1x1024 .f32) (harg3 : arg3.IsWhole) (arg4 : Memref sig .tc .vmem S1x256x7 .f32) (harg4 : arg4.IsWhole) (arg5 : Memref sig .tc .vmem S1x256x1 .f32) (harg5 : arg5.IsWhole) (arg6 : Memref sig .tc .vmem S1x256x1 .i32) (harg6 : arg6.IsWhole) (arg7 : Memref sig .tc .vmem S1024x8 .f32) (harg7 : arg7.IsWhole) (arg8 : Memref sig .tc .vmem S1024x1024 .f32) (harg8 : arg8.IsWhole)
    (x0 : Vec F S1x20000x8 .f32) (x1 : Vec F S1x1x1024 .i32) (x2 : Vec F S1x1x1024 .f32) (k1_hw1L : (∀ (kq : ℕ) (hkq : kq < k1_t1_loop.trips), k1_chk1 (arg2.view.readAt (Elt F) (Rect.unit (s := S1x1x1024) (k1_off1 ⟨kq, hkq⟩) S1x1x1.size (k1_off1_inb ⟨kq, hkq⟩)).toLoadRect (harg2.unread x1) (Shape.Idx.first (numel1_S1x1x1.symm ▸ Nat.one_pos)))))

/-- The gathered rows, as read through a part of the first scratch buffer. -/
abbrev gathered (rr : LoadRect S1024x8) :=
  arg7.view.readCov (pb_k1_t1 Variants.none c none i arg1 harg1 arg2 harg2 arg3 harg3 arg4 harg4 arg5 harg5 arg6 harg6 arg7 harg7 arg8 harg8 (harg1.unread x0) (harg2.unread x1) k1_hw1L (Scf.trips k1_t1_loop.lb k1_t1_loop.ub k1_t1_loop.st)) rr

theorem link_x1 : nmsRun.sl.r_9 c i arg1 harg1 arg2 harg2 arg3 harg3 arg4 harg4 arg5 harg5 arg6 harg6 arg7 harg7 arg8 harg8 x0 x1 k1_hw1L = turn (nmsRun.sl.r c i arg1 harg1 arg2 harg2 arg3 harg3 arg4 harg4 arg5 harg5 arg6 harg6 arg7 harg7 arg8 harg8 x0 x1 k1_hw1L) := rfl
theorem link_x2 : nmsRun.sl.r_12 c i arg1 harg1 arg2 harg2 arg3 harg3 arg4 harg4 arg5 harg5 arg6 harg6 arg7 harg7 arg8 harg8 x0 x1 k1_hw1L = turn (nmsRun.sl.r_1 c i arg1 harg1 arg2 harg2 arg3 harg3 arg4 harg4 arg5 harg5 arg6 harg6 arg7 harg7 arg8 harg8 x0 x1 k1_hw1L) := rfl
theorem link_y1 : nmsRun.sl.r_15 c i arg1 harg1 arg2 harg2 arg3 harg3 arg4 harg4 arg5 harg5 arg6 harg6 arg7 harg7 arg8 harg8 x0 x1 k1_hw1L = turn (nmsRun.sl.r_2 c i arg1 harg1 arg2 harg2 arg3 harg3 arg4 harg4 arg5 harg5 arg6 harg6 arg7 harg7 arg8 harg8 x0 x1 k1_hw1L) := rfl
theorem link_y2 : nmsRun.sl.r_19 c i arg1 harg1 arg2 harg2 arg3 harg3 arg4 harg4 arg5 harg5 arg6 harg6 arg7 harg7 arg8 harg8 x0 x1 k1_hw1L = turn (nmsRun.sl.r_3 c i arg1 harg1 arg2 harg2 arg3 harg3 arg4 harg4 arg5 harg5 arg6 harg6 arg7 harg7 arg8 harg8 x0 x1 k1_hw1L) := rfl
theorem link_ar : nmsRun.sl.r_23 c i arg1 harg1 arg2 harg2 arg3 harg3 arg4 harg4 arg5 harg5 arg6 harg6 arg7 harg7 arg8 harg8 x0 x1 k1_hw1L = turn (nmsRun.sl.r_4 c i arg1 harg1 arg2 harg2 arg3 harg3 arg4 harg4 arg5 harg5 arg6 harg6 arg7 harg7 arg8 harg8 x0 x1 k1_hw1L) := rfl
theorem link_pairs : nmsRun.sl.HS1_8 c i arg1 harg1 arg2 harg2 arg3 harg3 arg4 harg4 arg5 harg5 arg6 harg6 arg7 harg7 arg8 harg8 x0 x1 k1_hw1L = pairs (nmsRun.sl.r c i arg1 harg1 arg2 harg2 arg3 harg3 arg4 harg4 arg5 harg5 arg6 harg6 arg7 harg7 arg8 harg8 x0 x1 k1_hw1L) (nmsRun.sl.r_1 c i arg1 harg1 arg2 harg2 arg3 harg3 arg4 harg4 arg5 harg5 arg6 harg6 arg7 harg7 arg8 harg8 x0 x1 k1_hw1L) (nmsRun.sl.r_2 c i arg1 harg1 arg2 harg2 arg3 harg3 arg4 harg4 arg5 harg5 arg6 harg6 arg7 harg7 arg8 harg8 x0 x1 k1_hw1L) (nmsRun.sl.r_3 c i arg1 harg1 arg2 harg2 arg3 harg3 arg4 harg4 arg5 harg5 arg6 harg6 arg7 harg7 arg8 harg8 x0 x1 k1_hw1L) (nmsRun.sl.r_4 c i arg1 harg1 arg2 harg2 arg3 harg3 arg4 harg4 arg5 harg5 arg6 harg6 arg7 harg7 arg8 harg8 x0 x1 k1_hw1L) := rfl
theorem link_rank : nmsRun.sl.r_48 c i arg1 harg1 arg2 harg2 arg3 harg3 arg4 harg4 arg5 harg5 arg6 harg6 arg7 harg7 arg8 harg8 x0 x1 x2 k1_hw1L = rank (nmsRun.sl.r_40 c i arg1 harg1 arg2 harg2 arg3 harg3 arg4 harg4 arg5 harg5 arg6 harg6 arg7 harg7 arg8 harg8 x0 x1 x2 k1_hw1L) := rfl
theorem link_boxes : (nmsRun c i arg1 harg1 arg2 harg2 arg3 harg3 arg4 harg4 arg5 harg5 arg6 harg6 arg7 harg7 arg8 harg8 x0 x1 x2 k1_hw1L).1 = [⟨Rect.unit (s := S1x256x7) ![0, 128, 0] S1x128x7.size inb_S1x256x7_S1x128x7_0_128_0, outBoxes 128#32 (rank (nmsRun.sl.r_40 c i arg1 harg1 arg2 harg2 arg3 harg3 arg4 harg4 arg5 harg5 arg6 harg6 arg7 harg7 arg8 harg8 x0 x1 x2 k1_hw1L)) (nmsRun.sl.r_49 c i arg1 harg1 arg2 harg2 arg3 harg3 arg4 harg4 arg5 harg5 arg6 harg6 arg7 harg7 arg8 harg8 x0 x1 k1_hw1L)⟩,
    ⟨Rect.unit (s := S1x256x7) ![0, 0, 0] S1x128x7.size inb_S1x256x7_S1x128x7_0_0_0, outBoxes 0#32 (rank (nmsRun.sl.r_40 c i arg1 harg1 arg2 harg2 arg3 harg3 arg4 harg4 arg5 harg5 arg6 harg6 arg7 harg7 arg8 harg8 x0 x1 x2 k1_hw1L)) (nmsRun.sl.r_49 c i arg1 harg1 arg2 harg2 arg3 harg3 arg4 harg4 arg5 harg5 arg6 harg6 arg7 harg7 arg8 harg8 x0 x1 k1_hw1L)⟩] := rfl
theorem link_scores : (nmsRun c i arg1 harg1 arg2 harg2 arg3 harg3 arg4 harg4 arg5 harg5 arg6 harg6 arg7 harg7 arg8 harg8 x0 x1 x2 k1_hw1L).2.1 = [⟨Rect.unit (s := S1x256x1) ![0, 128, 0] S1x128x1.size inb_S1x256x1_S1x128x1_0_128_0, outScores 128#32 (rank (nmsRun.sl.r_40 c i arg1 harg1 arg2 harg2 arg3 harg3 arg4 harg4 arg5 harg5 arg6 harg6 arg7 harg7 arg8 harg8 x0 x1 x2 k1_hw1L)) (nmsRun.sl.r_40 c i arg1 harg1 arg2 harg2 arg3 harg3 arg4 harg4 arg5 harg5 arg6 harg6 arg7 harg7 arg8 harg8 x0 x1 x2 k1_hw1L)⟩,
    ⟨Rect.unit (s := S1x256x1) ![0, 0, 0] S1x128x1.size inb_S1x256x1_S1x128x1_0_0_0, outScores 0#32 (rank (nmsRun.sl.r_40 c i arg1 harg1 arg2 harg2 arg3 harg3 arg4 harg4 arg5 harg5 arg6 harg6 arg7 harg7 arg8 harg8 x0 x1 x2 k1_hw1L)) (nmsRun.sl.r_40 c i arg1 harg1 arg2 harg2 arg3 harg3 arg4 harg4 arg5 harg5 arg6 harg6 arg7 harg7 arg8 harg8 x0 x1 x2 k1_hw1L)⟩] := rfl
theorem link_labels : (nmsRun c i arg1 harg1 arg2 harg2 arg3 harg3 arg4 harg4 arg5 harg5 arg6 harg6 arg7 harg7 arg8 harg8 x0 x1 x2 k1_hw1L).2.2.1 = [⟨Rect.unit (s := S1x256x1) ![0, 128, 0] S1x128x1.size inb_S1x256x1_S1x128x1_0_128_0, outLabels 128#32 (rank (nmsRun.sl.r_40 c i arg1 harg1 arg2 harg2 arg3 harg3 arg4 harg4 arg5 harg5 arg6 harg6 arg7 harg7 arg8 harg8 x0 x1 x2 k1_hw1L)) (nmsRun.sl.r_40 c i arg1 harg1 arg2 harg2 arg3 harg3 arg4 harg4 arg5 harg5 arg6 harg6 arg7 harg7 arg8 harg8 x0 x1 x2 k1_hw1L) (nmsRun.sl.r_49 c i arg1 harg1 arg2 harg2 arg3 harg3 arg4 harg4 arg5 harg5 arg6 harg6 arg7 harg7 arg8 harg8 x0 x1 k1_hw1L)⟩,
    ⟨Rect.unit (s := S1x256x1) ![0, 0, 0] S1x128x1.size inb_S1x256x1_S1x128x1_0_0_0, outLabels 0#32 (rank (nmsRun.sl.r_40 c i arg1 harg1 arg2 harg2 arg3 harg3 arg4 harg4 arg5 harg5 arg6 harg6 arg7 harg7 arg8 harg8 x0 x1 x2 k1_hw1L)) (nmsRun.sl.r_40 c i arg1 harg1 arg2 harg2 arg3 harg3 arg4 harg4 arg5 harg5 arg6 harg6 arg7 harg7 arg8 harg8 x0 x1 x2 k1_hw1L) (nmsRun.sl.r_49 c i arg1 harg1 arg2 harg2 arg3 harg3 arg4 harg4 arg5 harg5 arg6 harg6 arg7 harg7 arg8 harg8 x0 x1 k1_hw1L)⟩] := rfl

end links

end Cert.KernelIdeal.Pf

end
-- ==== Proof.NmsOrder.lean ====
/- Sorting and counting: a stable sort by "greater first" puts at each place the position that has that many positions before it,
   where equal values come in the order of their positions. -/
module

public import Idealize.ShloMosaic.Lib.SortFacts

@[expose] public section

namespace Cert.Nms

open Idealize.ShloMosaic

variable {n : ℕ} {α : Type} [LinearOrder α]

/-- Position `a` comes before position `b`: the greater value first, equal values by position. -/
def comesFirst (x : Fin n → α) (a b : Fin n) : Prop := x b < x a ∨ (x a = x b ∧ a < b)

instance (x : Fin n → α) (a b : Fin n) : Decidable (comesFirst x a b) := by unfold comesFirst; infer_instance

theorem comesFirst_total (x : Fin n → α) (a b : Fin n) (h : a ≠ b) : comesFirst x a b ∨ comesFirst x b a := by
  unfold comesFirst
  rcases lt_trichotomy (x a) (x b) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

theorem comesFirst_asymm (x : Fin n → α) (a b : Fin n) (h : comesFirst x a b) : ¬ comesFirst x b a := by
  unfold comesFirst at *
  rcases h with h | ⟨h, h'⟩
  · rintro (h2 | ⟨h2, _⟩)
    · exact lt_asymm h h2
    · exact absurd h2 (ne_of_lt h)
  · rintro (h2 | ⟨_, h3⟩)
    · exact absurd h (ne_of_lt h2)
    · exact lt_asymm h' h3

theorem comesFirst_irrefl (x : Fin n → α) (a : Fin n) : ¬ comesFirst x a a := fun h => comesFirst_asymm x a a h h

theorem comesFirst_trans (x : Fin n → α) (a b c : Fin n) (h : comesFirst x a b) (h' : comesFirst x b c) : comesFirst x a c := by
  unfold comesFirst at *
  rcases h with h | ⟨h, i⟩ <;> rcases h' with h' | ⟨h', i'⟩
  · exact Or.inl (lt_trans h' h)
  · exact Or.inl (h' ▸ h)
  · exact Or.inl (h ▸ h')
  · exact Or.inr ⟨h.trans h', lt_trans i i'⟩

/-- Sorting an ascending list of positions, the order of positions among equals is kept by the sort already. -/
theorem stableSort_ties (x : Fin n → α) (l : List (Fin n)) (hl : l.Pairwise (· < ·)) :
    stableSort (fun a b => decide (x b < x a)) l = stableSort (fun a b => decide (comesFirst x a b)) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    refine decide_eq_decide.mpr ⟨fun h => Or.inl h, fun h => ?_⟩
    rcases h with h | ⟨_, h⟩
    · exact h
    · exact absurd h (lt_asymm hab)

/-- The position whose value the sort puts at place `r`. -/
def placed (x : Fin n → α) (r : Fin n) : Fin n := sortedFrom (fun a b => decide (x b < x a)) r

theorem placed_eq (x : Fin n → α) (r : Fin n) : placed x r = sortedFrom (fun a b => decide (comesFirst x a b)) r := by
  unfold placed sortedFrom
  have h : sortPositions n (fun a b => decide (x b < x a)) = sortPositions n (fun a b => decide (comesFirst x a b)) :=
    stableSort_ties x _ (List.pairwise_lt_finRange n)
  rw [List.get_of_eq h]; rfl

theorem placed_injective (x : Fin n → α) : Function.Injective (placed x) := sortedFrom_injective _

theorem placed_surjective (x : Fin n → α) : Function.Surjective (placed x) := sortedFrom_surjective _

theorem placed_lt (x : Fin n → α) (i j : Fin n) (hij : i < j) : comesFirst x (placed x i) (placed x j) := by
  have h := sortedFrom_noInversion (fun a b => decide (comesFirst x a b)) (fun a b => decide (comesFirst x a b))
    (fun a b h => decide_eq_false (comesFirst_asymm x a b (of_decide_eq_true h))) (fun _ _ h => h)
    (fun a b c h h' => decide_eq_false fun hac => by
      have h1 := of_decide_eq_false h
      have h2 := of_decide_eq_false h'
      rcases eq_or_ne a b with rfl | hab
      · exact h2 hac
      · exact h2 (comesFirst_trans x b a c ((comesFirst_total x a b hab).resolve_left h1) hac)) i j hij
  rw [← placed_eq, ← placed_eq] at h
  exact (comesFirst_total x _ _ fun e => absurd (placed_injective x e) (ne_of_lt hij)).resolve_right (of_decide_eq_false h)

theorem placed_iff (x : Fin n → α) (i j : Fin n) : comesFirst x (placed x i) (placed x j) ↔ i < j := by
  refine ⟨fun h => ?_, placed_lt x i j⟩
  rcases lt_trichotomy i j with h1 | rfl | h1
  · exact h1
  · exact absurd h (comesFirst_irrefl x _)
  · exact absurd h (comesFirst_asymm x _ _ (placed_lt x j i h1))

/-- How many positions come before position `j`. -/
def ahead (x : Fin n → α) (j : Fin n) : ℕ := (Finset.univ.filter fun i => comesFirst x i j).card

theorem ahead_placed (x : Fin n → α) (r : Fin n) : ahead x (placed x r) = r.val := by
  have hb : Function.Bijective (placed x) := ⟨placed_injective x, placed_surjective x⟩
  have h : (Finset.univ.filter fun i => comesFirst x i (placed x r)) = (Finset.univ.filter fun i => i < r).map ⟨placed x, placed_injective x⟩ := by
    ext i
    obtain ⟨k, rfl⟩ := hb.2 i
    simp only [Finset.mem_filter, Finset.mem_univ, true_and, Finset.mem_map, Function.Embedding.coeFn_mk, placed_iff]
    constructor
    · intro h; exact ⟨k, h, rfl⟩
    · rintro ⟨k', h, e⟩; exact placed_injective x e ▸ h
  unfold ahead
  rw [h, Finset.card_map]
  have : (Finset.univ.filter fun i : Fin n => i < r) = Finset.Iio r := by ext i; simp
  rw [this, Fin.card_Iio]

/-- The one position with `r` positions before it is the one the sort puts at place `r`. -/
theorem ahead_eq_iff (x : Fin n → α) (j r : Fin n) : ahead x j = r.val ↔ j = placed x r := by
  constructor
  · intro h
    obtain ⟨k, rfl⟩ := placed_surjective x j
    rw [ahead_placed] at h
    rw [Fin.ext h]
  · rintro rfl; exact ahead_placed x r

end Cert.Nms
-- ==== Proof.NmsSpec.lean ====
/- What both programs compute, as functions of the numbers of one image: which box suppresses which, the boxes still kept
   after each step, the scores left of them, and the order by score. -/
module

public import proofs.«01_k».proof.Proof.NmsOrder
public import Idealize.ShloMosaic.Lib.Pointwise

@[expose] public section

set_option maxRecDepth 16384

noncomputable section

namespace Cert.Nms

open Idealize.ShloMosaic

/-- One half. -/
abbrev half : EReal := Ideal.ofBits .f32 1056964608#32
/-- The least union of two boxes that is divided by. -/
abbrev least : EReal := Ideal.ofBits .f32 897988541#32
/-- The score of a box that is dropped. -/
abbrev dropped : EReal := Ideal.ofBits .f32 3212836864#32
/-- The least score looked at. -/
abbrev thresh : EReal := Ideal.ofBits .f32 1036831949#32

section
variable (x1 x2 y1 y2 ar : Fin 1024 → EReal)

/-- The area two boxes share. -/
def inter (a b : Fin 1024) : EReal :=
  max (min (x2 a) (x2 b) - max (x1 a) (x1 b)) 0 * max (min (y2 a) (y2 b) - max (y1 a) (y1 b)) 0
/-- The shared area over the area of the union. -/
def iou (a b : Fin 1024) : EReal :=
  Ideal.div (inter x1 x2 y1 y2 a b) (max (ar a + ar b - inter x1 x2 y1 y2 a b) least)
/-- Whether box `a`, if kept, drops box `b`. -/
def bars (a b : Fin 1024) : Bool := decide (half < iou x1 x2 y1 y2 ar a b ∧ a < b)
end

/-- The step's box. -/
abbrev turnOf (k : ℕ) : Fin 1024 := ⟨k % 1024, Nat.mod_lt _ (by decide)⟩

/-- The boxes still kept after `k` steps. -/
def keepAt (br : Fin 1024 → Fin 1024 → Bool) : ℕ → Fin 1024 → Bool
  | 0, _ => true
  | k + 1, j => keepAt br k j && !(br (turnOf k) j && keepAt br k (turnOf k))

/-- The scores of the boxes kept, the dropped boxes' set below every other. -/
def selOf (br : Fin 1024 → Fin 1024 → Bool) (ts : Fin 1024 → EReal) (j : Fin 1024) : EReal :=
  if keepAt br 1024 j = true ∧ 0 < ts j then ts j else dropped

section
variable (g : Fin 1024 → Fin 7 → EReal)
/-- Which box drops which, of the boxes as rows of coordinates. -/
def barsOf : Fin 1024 → Fin 1024 → Bool :=
  bars (fun j => g j 0 - g j 3 * half) (fun j => g j 0 + g j 3 * half) (fun j => g j 1 - g j 4 * half) (fun j => g j 1 + g j 4 * half) (fun j => g j 3 * g j 4)
/-- The scores left. -/
def sel (ts : Fin 1024 → EReal) : Fin 1024 → EReal := selOf (barsOf g) ts
/-- The box that comes at place `r` of the result. -/
def at_ (ts : Fin 1024 → EReal) (r : Fin 1024) : Fin 1024 := placed (sel g ts) r
end

/-- Eight chunks of 128 make the 1024. -/
theorem eight_chunks (f : Fin 1024 → EReal) :
    ∑ x : Fin 128, f ⟨x, by omega⟩ + ∑ x : Fin 128, f ⟨128 + x, by omega⟩ + ∑ x : Fin 128, f ⟨256 + x, by omega⟩
      + ∑ x : Fin 128, f ⟨384 + x, by omega⟩ + ∑ x : Fin 128, f ⟨512 + x, by omega⟩ + ∑ x : Fin 128, f ⟨640 + x, by omega⟩
      + ∑ x : Fin 128, f ⟨768 + x, by omega⟩ + ∑ x : Fin 128, f ⟨896 + x, by omega⟩ = ∑ i, f i := by
  have h : ∑ i, f i = ∑ p : Fin 8 × Fin 128, f (finProdFinEquiv p) := (Equiv.sum_comp (finProdFinEquiv (m := 8) (n := 128)) f).symm
  rw [h, Fintype.sum_prod_type, Fin.sum_univ_eight]
  have hh : ∀ (a : Fin 8) (b : ℕ), 128 * a.val = b → ∀ hb : b + 128 ≤ 1024, ∑ x : Fin 128, f ⟨b + x, by omega⟩ = ∑ x : Fin 128, f (finProdFinEquiv (a, x)) := by
    intro a b e hb
    refine Finset.sum_congr rfl fun x _ => congrArg f (Fin.ext ?_)
    show b + x.val = x.val + 128 * a.val
    omega
  have h0 : ∑ x : Fin 128, f ⟨x, by omega⟩ = ∑ x : Fin 128, f (finProdFinEquiv ((0 : Fin 8), x)) := by
    refine Finset.sum_congr rfl fun x _ => congrArg f (Fin.ext ?_)
    show x.val = x.val + 128 * 0
    omega
  rw [h0, hh 1 128 rfl (by decide), hh 2 256 rfl (by decide), hh 3 384 rfl (by decide), hh 4 512 rfl (by decide), hh 5 640 rfl (by decide), hh 6 768 rfl (by decide), hh 7 896 rfl (by decide)]

/-- Small numbers as words compare as the numbers do. -/
theorem word_eq (a b : ℕ) (ha : a < 2147483648) (hb : b < 2147483648) :
    IntOp.cmpi .eq (BitVec.ofNat 32 a) (BitVec.ofNat 32 b) = BitVec.ofBool (decide (a = b)) := by
  have : (BitVec.ofNat 32 a = BitVec.ofNat 32 b) ↔ a = b := by
    constructor
    · intro h
      have := congrArg BitVec.toNat h
      simp only [BitVec.toNat_ofNat] at this
      omega
    · rintro rfl; rfl
  simp [IntOp.cmpi, this, BEq.beq]
theorem word_toInt (a : ℕ) (ha : a < 2147483648) : (BitVec.ofNat 32 a).toInt = a := by
  rw [BitVec.toInt_eq_toNat_cond, BitVec.toNat_ofNat]
  split <;> omega
theorem word_slt (a b : ℕ) (ha : a < 2147483648) (hb : b < 2147483648) :
    IntOp.cmpi .slt (BitVec.ofNat 32 a) (BitVec.ofNat 32 b) = BitVec.ofBool (decide (a < b)) := by
  simp [IntOp.cmpi, BitVec.slt, word_toInt a ha, word_toInt b hb]
theorem word_sgt (a b : ℕ) (ha : a < 2147483648) (hb : b < 2147483648) :
    IntOp.cmpi .sgt (BitVec.ofNat 32 a) (BitVec.ofNat 32 b) = BitVec.ofBool (decide (b < a)) := by
  simp [IntOp.cmpi, BitVec.slt, word_toInt a ha, word_toInt b hb]
theorem word_add (a b : ℕ) : IntOp.addi (BitVec.ofNat 32 a) (BitVec.ofNat 32 b) = BitVec.ofNat 32 (b + a) := by
  rw [Nat.add_comm]; simp [IntOp.addi, BitVec.ofNat_add]
theorem select_ofBool {α : Type} (p : Prop) [Decidable p] (x y : α) : Scalar.select (BitVec.ofBool (decide p)) x y = if p then x else y := by
  by_cases h : p <;> simp [Scalar.select, h]
theorem and_ofBool (p q : Prop) [Decidable p] [Decidable q] :
    IntOp.andi (BitVec.ofBool (decide p)) (BitVec.ofBool (decide q)) = BitVec.ofBool (decide (p ∧ q)) := by
  by_cases h : p <;> by_cases h' : q <;> simp [IntOp.andi, h, h']
theorem or_ofBool (p q : Prop) [Decidable p] [Decidable q] :
    IntOp.ori (BitVec.ofBool (decide p)) (BitVec.ofBool (decide q)) = BitVec.ofBool (decide (p ∨ q)) := by
  by_cases h : p <;> by_cases h' : q <;> simp [IntOp.ori, h, h']
theorem float_ofBool (p : Prop) [Decidable p] :
    (FloatOps.sitofp .f32 (BitVec.setWidth 32 (BitVec.ofBool (decide p))) : Ideal .f32) = if p then (1 : EReal) else 0 := by
  by_cases h : p
  · show (((BitVec.setWidth 32 (BitVec.ofBool (decide p))).toInt : ℝ) : EReal) = _
    simp [h, BitVec.toInt]
  · show (((BitVec.setWidth 32 (BitVec.ofBool (decide p))).toInt : ℝ) : EReal) = _
    simp [h, BitVec.toInt]
theorem float_ofNat (a : ℕ) (ha : a < 2147483648) : (FloatOps.sitofp .f32 (BitVec.ofNat 32 a) : Ideal .f32) = ((a : ℝ) : EReal) := by
  show (((BitVec.ofNat 32 a).toInt : ℝ) : EReal) = _
  rw [word_toInt a ha]; simp
theorem real_inj (a b : ℕ) : (((a : ℝ) : EReal) = ((b : ℝ) : EReal)) ↔ a = b := by
  rw [EReal.coe_eq_coe_iff, Nat.cast_inj]

/-- A sum that counts. -/
theorem count (p : Fin 1024 → Prop) [DecidablePred p] :
    ∑ i, (if p i then (1 : EReal) else 0) = (((Finset.univ.filter p).card : ℝ) : EReal) := by
  rw [Finset.sum_ite, Finset.sum_const_zero, add_zero, Finset.sum_const, nsmul_one]
  norm_cast

/-- A sum with one place set. -/
theorem one_place (i : Fin 1024) (v : Fin 1024 → EReal) : ∑ x, (if x = i then v x else 0) = v i := by
  rw [Finset.sum_ite_eq' Finset.univ i v, if_pos (Finset.mem_univ i)]
theorem one_place_mul (i : Fin 1024) (v : Fin 1024 → EReal) : ∑ x, (if x = i then (1 : EReal) else 0) * v x = v i := by
  rw [← one_place i v]
  refine Finset.sum_congr rfl fun x _ => ?_
  by_cases h : x = i <;> simp [h]

end Cert.Nms

end
-- ==== Proof.KernelIdealPoint.lean ====
/- The second kernel's stages read at one place, over the extended reals: what each number is. -/
module

public import proofs.«01_k».proof.Proof.KernelIdealStage
public import proofs.«01_k».proof.Proof.NmsSpec
public import Idealize.ShloMosaic.Lib.Pipeline.CanonAppend
public import Idealize.ShloMosaic.Lib.Pipeline.ValueKit.Tiles

@[expose] public section

set_option maxRecDepth 16384

noncomputable section

namespace Cert.KernelIdeal.Pf
open Idealize.ShloMosaic.Pointwise
open Cert.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

set_option backward.isDefEq.respectTransparency.types false

/-- A column's numbers. -/
abbrev down (v : FVec Ideal S1024x1 .f32) (i : Fin 1024) : EReal := v (ix2 i 0)
/-- A row's numbers. -/
abbrev along (v : FVec Ideal S1x1024 .f32) (j : Fin 1024) : EReal := v (ix2 0 j)

theorem turnPart_0 (v : FVec Ideal S1024x1 .f32) (j : Fin 1024) : turnPart 0#32 ![0, 0] slices_S1024x1_o0_0_S128x1 v (ix2 0 j)
    = ∑ x : Fin 128, (fun i : Fin 1024 => if i = j then down v i else 0) ⟨x, by omega⟩ := by
  unfold turnPart
  pointwise
  refine Finset.sum_congr rfl fun x _ => ?_
  rw [word_add, word_eq _ _ (by omega) (by omega), select_ofBool]
  simp only [Fin.ext_iff, Nat.zero_add]
theorem turnPart_128 (v : FVec Ideal S1024x1 .f32) (j : Fin 1024) : turnPart 128#32 ![128, 0] slices_S1024x1_o128_0_S128x1 v (ix2 0 j)
    = ∑ x : Fin 128, (fun i : Fin 1024 => if i = j then down v i else 0) ⟨128 + x, by omega⟩ := by
  unfold turnPart
  pointwise
  refine Finset.sum_congr rfl fun x _ => ?_
  rw [word_add, word_eq _ _ (by omega) (by omega), select_ofBool]
  simp only [Fin.ext_iff, Nat.zero_add]
theorem turnPart_256 (v : FVec Ideal S1024x1 .f32) (j : Fin 1024) : turnPart 256#32 ![256, 0] slices_S1024x1_o256_0_S128x1 v (ix2 0 j)
    = ∑ x : Fin 128, (fun i : Fin 1024 => if i = j then down v i else 0) ⟨256 + x, by omega⟩ := by
  unfold turnPart
  pointwise
  refine Finset.sum_congr rfl fun x _ => ?_
  rw [word_add, word_eq _ _ (by omega) (by omega), select_ofBool]
  simp only [Fin.ext_iff, Nat.zero_add]
theorem turnPart_384 (v : FVec Ideal S1024x1 .f32) (j : Fin 1024) : turnPart 384#32 ![384, 0] slices_S1024x1_o384_0_S128x1 v (ix2 0 j)
    = ∑ x : Fin 128, (fun i : Fin 1024 => if i = j then down v i else 0) ⟨384 + x, by omega⟩ := by
  unfold turnPart
  pointwise
  refine Finset.sum_congr rfl fun x _ => ?_
  rw [word_add, word_eq _ _ (by omega) (by omega), select_ofBool]
  simp only [Fin.ext_iff, Nat.zero_add]
theorem turnPart_512 (v : FVec Ideal S1024x1 .f32) (j : Fin 1024) : turnPart 512#32 ![512, 0] slices_S1024x1_o512_0_S128x1 v (ix2 0 j)
    = ∑ x : Fin 128, (fun i : Fin 1024 => if i = j then down v i else 0) ⟨512 + x, by omega⟩ := by
  unfold turnPart
  pointwise
  refine Finset.sum_congr rfl fun x _ => ?_
  rw [word_add, word_eq _ _ (by omega) (by omega), select_ofBool]
  simp only [Fin.ext_iff, Nat.zero_add]
theorem turnPart_640 (v : FVec Ideal S1024x1 .f32) (j : Fin 1024) : turnPart 640#32 ![640, 0] slices_S1024x1_o640_0_S128x1 v (ix2 0 j)
    = ∑ x : Fin 128, (fun i : Fin 1024 => if i = j then down v i else 0) ⟨640 + x, by omega⟩ := by
  unfold turnPart
  pointwise
  refine Finset.sum_congr rfl fun x _ => ?_
  rw [word_add, word_eq _ _ (by omega) (by omega), select_ofBool]
  simp only [Fin.ext_iff, Nat.zero_add]
theorem turnPart_768 (v : FVec Ideal S1024x1 .f32) (j : Fin 1024) : turnPart 768#32 ![768, 0] slices_S1024x1_o768_0_S128x1 v (ix2 0 j)
    = ∑ x : Fin 128, (fun i : Fin 1024 => if i = j then down v i else 0) ⟨768 + x, by omega⟩ := by
  unfold turnPart
  pointwise
  refine Finset.sum_congr rfl fun x _ => ?_
  rw [word_add, word_eq _ _ (by omega) (by omega), select_ofBool]
  simp only [Fin.ext_iff, Nat.zero_add]
theorem turnPart_896 (v : FVec Ideal S1024x1 .f32) (j : Fin 1024) : turnPart 896#32 ![896, 0] slices_S1024x1_o896_0_S128x1 v (ix2 0 j)
    = ∑ x : Fin 128, (fun i : Fin 1024 => if i = j then down v i else 0) ⟨896 + x, by omega⟩ := by
  unfold turnPart
  pointwise
  refine Finset.sum_congr rfl fun x _ => ?_
  rw [word_add, word_eq _ _ (by omega) (by omega), select_ofBool]
  simp only [Fin.ext_iff, Nat.zero_add]
/-- The turned column is the column. -/
theorem turn_at (v : FVec Ideal S1024x1 .f32) (j : Fin 1024) : along (turn v) j = down v j := by
  unfold turn along
  pointwise
  rw [turnPart_0, turnPart_128, turnPart_256, turnPart_384, turnPart_512, turnPart_640, turnPart_768, turnPart_896]
  exact (eight_chunks fun i => if i = j then down v i else 0).trans (one_place j _)
theorem pairPart_0 (x1 x2 y1 y2 ar : FVec Ideal S1024x1 .f32) (a : Fin 128) (j : Fin 1024) :
    pairPart 0#32 ![0, 0] slices_S1024x1_o0_0_S128x1 x1 x2 y1 y2 ar (turn x1) (turn x2) (turn y1) (turn y2) (turn ar) (ix2 a j)
      = if bars (down x1) (down x2) (down y1) (down y2) (down ar) ⟨a, by omega⟩ j = true then 1 else 0 := by
  unfold pairPart interPart
  pointwise
  rw [word_add, word_sgt _ _ (by omega) (by omega), and_ofBool, select_ofBool]
  simp only [show ∀ v, turn v (ix2 0 j) = v (ix2 j 0) from fun v => turn_at v j]
  unfold bars iou inter
  simp only [decide_eq_true_eq, Fin.lt_def, Nat.zero_add]
theorem pairPart_128 (x1 x2 y1 y2 ar : FVec Ideal S1024x1 .f32) (a : Fin 128) (j : Fin 1024) :
    pairPart 128#32 ![128, 0] slices_S1024x1_o128_0_S128x1 x1 x2 y1 y2 ar (turn x1) (turn x2) (turn y1) (turn y2) (turn ar) (ix2 a j)
      = if bars (down x1) (down x2) (down y1) (down y2) (down ar) ⟨128 + a, by omega⟩ j = true then 1 else 0 := by
  unfold pairPart interPart
  pointwise
  rw [word_add, word_sgt _ _ (by omega) (by omega), and_ofBool, select_ofBool]
  simp only [show ∀ v, turn v (ix2 0 j) = v (ix2 j 0) from fun v => turn_at v j]
  unfold bars iou inter
  simp only [decide_eq_true_eq, Fin.lt_def, Nat.zero_add]
theorem pairPart_256 (x1 x2 y1 y2 ar : FVec Ideal S1024x1 .f32) (a : Fin 128) (j : Fin 1024) :
    pairPart 256#32 ![256, 0] slices_S1024x1_o256_0_S128x1 x1 x2 y1 y2 ar (turn x1) (turn x2) (turn y1) (turn y2) (turn ar) (ix2 a j)
      = if bars (down x1) (down x2) (down y1) (down y2) (down ar) ⟨256 + a, by omega⟩ j = true then 1 else 0 := by
  unfold pairPart interPart
  pointwise
  rw [word_add, word_sgt _ _ (by omega) (by omega), and_ofBool, select_ofBool]
  simp only [show ∀ v, turn v (ix2 0 j) = v (ix2 j 0) from fun v => turn_at v j]
  unfold bars iou inter
  simp only [decide_eq_true_eq, Fin.lt_def, Nat.zero_add]
theorem pairPart_384 (x1 x2 y1 y2 ar : FVec Ideal S1024x1 .f32) (a : Fin 128) (j : Fin 1024) :
    pairPart 384#32 ![384, 0] slices_S1024x1_o384_0_S128x1 x1 x2 y1 y2 ar (turn x1) (turn x2) (turn y1) (turn y2) (turn ar) (ix2 a j)
      = if bars (down x1) (down x2) (down y1) (down y2) (down ar) ⟨384 + a, by omega⟩ j = true then 1 else 0 := by
  unfold pairPart interPart
  pointwise
  rw [word_add, word_sgt _ _ (by omega) (by omega), and_ofBool, select_ofBool]
  simp only [show ∀ v, turn v (ix2 0 j) = v (ix2 j 0) from fun v => turn_at v j]
  unfold bars iou inter
  simp only [decide_eq_true_eq, Fin.lt_def, Nat.zero_add]
theorem pairPart_512 (x1 x2 y1 y2 ar : FVec Ideal S1024x1 .f32) (a : Fin 128) (j : Fin 1024) :
    pairPart 512#32 ![512, 0] slices_S1024x1_o512_0_S128x1 x1 x2 y1 y2 ar (turn x1) (turn x2) (turn y1) (turn y2) (turn ar) (ix2 a j)
      = if bars (down x1) (down x2) (down y1) (down y2) (down ar) ⟨512 + a, by omega⟩ j = true then 1 else 0 := by
  unfold pairPart interPart
  pointwise
  rw [word_add, word_sgt _ _ (by omega) (by omega), and_ofBool, select_ofBool]
  simp only [show ∀ v, turn v (ix2 0 j) = v (ix2 j 0) from fun v => turn_at v j]
  unfold bars iou inter
  simp only [decide_eq_true_eq, Fin.lt_def, Nat.zero_add]
theorem pairPart_640 (x1 x2 y1 y2 ar : FVec Ideal S1024x1 .f32) (a : Fin 128) (j : Fin 1024) :
    pairPart 640#32 ![640, 0] slices_S1024x1_o640_0_S128x1 x1 x2 y1 y2 ar (turn x1) (turn x2) (turn y1) (turn y2) (turn ar) (ix2 a j)
      = if bars (down x1) (down x2) (down y1) (down y2) (down ar) ⟨640 + a, by omega⟩ j = true then 1 else 0 := by
  unfold pairPart interPart
  pointwise
  rw [word_add, word_sgt _ _ (by omega) (by omega), and_ofBool, select_ofBool]
  simp only [show ∀ v, turn v (ix2 0 j) = v (ix2 j 0) from fun v => turn_at v j]
  unfold bars iou inter
  simp only [decide_eq_true_eq, Fin.lt_def, Nat.zero_add]
theorem pairPart_768 (x1 x2 y1 y2 ar : FVec Ideal S1024x1 .f32) (a : Fin 128) (j : Fin 1024) :
    pairPart 768#32 ![768, 0] slices_S1024x1_o768_0_S128x1 x1 x2 y1 y2 ar (turn x1) (turn x2) (turn y1) (turn y2) (turn ar) (ix2 a j)
      = if bars (down x1) (down x2) (down y1) (down y2) (down ar) ⟨768 + a, by omega⟩ j = true then 1 else 0 := by
  unfold pairPart interPart
  pointwise
  rw [word_add, word_sgt _ _ (by omega) (by omega), and_ofBool, select_ofBool]
  simp only [show ∀ v, turn v (ix2 0 j) = v (ix2 j 0) from fun v => turn_at v j]
  unfold bars iou inter
  simp only [decide_eq_true_eq, Fin.lt_def, Nat.zero_add]
theorem pairPart_896 (x1 x2 y1 y2 ar : FVec Ideal S1024x1 .f32) (a : Fin 128) (j : Fin 1024) :
    pairPart 896#32 ![896, 0] slices_S1024x1_o896_0_S128x1 x1 x2 y1 y2 ar (turn x1) (turn x2) (turn y1) (turn y2) (turn ar) (ix2 a j)
      = if bars (down x1) (down x2) (down y1) (down y2) (down ar) ⟨896 + a, by omega⟩ j = true then 1 else 0 := by
  unfold pairPart interPart
  pointwise
  rw [word_add, word_sgt _ _ (by omega) (by omega), and_ofBool, select_ofBool]
  simp only [show ∀ v, turn v (ix2 0 j) = v (ix2 j 0) from fun v => turn_at v j]
  unfold bars iou inter
  simp only [decide_eq_true_eq, Fin.lt_def, Nat.zero_add]

/-- The table's number for a pair. -/
def pairAt (x1 x2 y1 y2 ar : FVec Ideal S1024x1 .f32) (y : S1024x1024.Idx) : EReal :=
  if bars (down x1) (down x2) (down y1) (down y2) (down ar) (y 0) (y 1) = true then 1 else 0

theorem pairs_at (x1 x2 y1 y2 ar : FVec Ideal S1024x1 .f32) (y : S1024x1024.Idx) :
    View.canon (Val := Elt Ideal) (pairs x1 x2 y1 y2 ar) y = pairAt x1 x2 y1 y2 ar y := by
  rw [← List.append_nil (pairs x1 x2 y1 y2 ar)]
  refine View.canon_append_of_pieces (Val := Elt Ideal) (e := .f32) (pairAt x1 x2 y1 y2 ar) [] _ ?_ y ?_
  · intro p hp
    simp only [pairs, List.mem_cons, List.not_mem_nil, or_false] at hp
    rcases hp with rfl | rfl | rfl | rfl | rfl | rfl | rfl | rfl
    · intro x
      obtain ⟨a, j, rfl⟩ : ∃ (a : Fin 128) (j : Fin 1024), x = ix2 a j := ⟨x 0, x 1, by idx_vars x⟩
      refine (pairPart_896 x1 x2 y1 y2 ar a j).trans ?_
      unfold pairAt
      refine congrArg₂ (fun a' j' => if bars (down x1) (down x2) (down y1) (down y2) (down ar) a' j' = true then (1 : EReal) else 0) (Fin.ext ?_) (Fin.ext ?_)
      · rw [Rect.emb_apply]
        show _ = 896 + 1 * a.val
        simp
      · rw [Rect.emb_apply]
        show _ = 0 + 1 * j.val
        simp
    · intro x
      obtain ⟨a, j, rfl⟩ : ∃ (a : Fin 128) (j : Fin 1024), x = ix2 a j := ⟨x 0, x 1, by idx_vars x⟩
      refine (pairPart_768 x1 x2 y1 y2 ar a j).trans ?_
      unfold pairAt
      refine congrArg₂ (fun a' j' => if bars (down x1) (down x2) (down y1) (down y2) (down ar) a' j' = true then (1 : EReal) else 0) (Fin.ext ?_) (Fin.ext ?_)
      · rw [Rect.emb_apply]
        show _ = 768 + 1 * a.val
        simp
      · rw [Rect.emb_apply]
        show _ = 0 + 1 * j.val
        simp
    · intro x
      obtain ⟨a, j, rfl⟩ : ∃ (a : Fin 128) (j : Fin 1024), x = ix2 a j := ⟨x 0, x 1, by idx_vars x⟩
      refine (pairPart_640 x1 x2 y1 y2 ar a j).trans ?_
      unfold pairAt
      refine congrArg₂ (fun a' j' => if bars (down x1) (down x2) (down y1) (down y2) (down ar) a' j' = true then (1 : EReal) else 0) (Fin.ext ?_) (Fin.ext ?_)
      · rw [Rect.emb_apply]
        show _ = 640 + 1 * a.val
        simp
      · rw [Rect.emb_apply]
        show _ = 0 + 1 * j.val
        simp
    · intro x
      obtain ⟨a, j, rfl⟩ : ∃ (a : Fin 128) (j : Fin 1024), x = ix2 a j := ⟨x 0, x 1, by idx_vars x⟩
      refine (pairPart_512 x1 x2 y1 y2 ar a j).trans ?_
      unfold pairAt
      refine congrArg₂ (fun a' j' => if bars (down x1) (down x2) (down y1) (down y2) (down ar) a' j' = true then (1 : EReal) else 0) (Fin.ext ?_) (Fin.ext ?_)
      · rw [Rect.emb_apply]
        show _ = 512 + 1 * a.val
        simp
      · rw [Rect.emb_apply]
        show _ = 0 + 1 * j.val
        simp
    · intro x
      obtain ⟨a, j, rfl⟩ : ∃ (a : Fin 128) (j : Fin 1024), x = ix2 a j := ⟨x 0, x 1, by idx_vars x⟩
      refine (pairPart_384 x1 x2 y1 y2 ar a j).trans ?_
      unfold pairAt
      refine congrArg₂ (fun a' j' => if bars (down x1) (down x2) (down y1) (down y2) (down ar) a' j' = true then (1 : EReal) else 0) (Fin.ext ?_) (Fin.ext ?_)
      · rw [Rect.emb_apply]
        show _ = 384 + 1 * a.val
        simp
      · rw [Rect.emb_apply]
        show _ = 0 + 1 * j.val
        simp
    · intro x
      obtain ⟨a, j, rfl⟩ : ∃ (a : Fin 128) (j : Fin 1024), x = ix2 a j := ⟨x 0, x 1, by idx_vars x⟩
      refine (pairPart_256 x1 x2 y1 y2 ar a j).trans ?_
      unfold pairAt
      refine congrArg₂ (fun a' j' => if bars (down x1) (down x2) (down y1) (down y2) (down ar) a' j' = true then (1 : EReal) else 0) (Fin.ext ?_) (Fin.ext ?_)
      · rw [Rect.emb_apply]
        show _ = 256 + 1 * a.val
        simp
      · rw [Rect.emb_apply]
        show _ = 0 + 1 * j.val
        simp
    · intro x
      obtain ⟨a, j, rfl⟩ : ∃ (a : Fin 128) (j : Fin 1024), x = ix2 a j := ⟨x 0, x 1, by idx_vars x⟩
      refine (pairPart_128 x1 x2 y1 y2 ar a j).trans ?_
      unfold pairAt
      refine congrArg₂ (fun a' j' => if bars (down x1) (down x2) (down y1) (down y2) (down ar) a' j' = true then (1 : EReal) else 0) (Fin.ext ?_) (Fin.ext ?_)
      · rw [Rect.emb_apply]
        show _ = 128 + 1 * a.val
        simp
      · rw [Rect.emb_apply]
        show _ = 0 + 1 * j.val
        simp
    · intro x
      obtain ⟨a, j, rfl⟩ : ∃ (a : Fin 128) (j : Fin 1024), x = ix2 a j := ⟨x 0, x 1, by idx_vars x⟩
      refine (pairPart_0 x1 x2 y1 y2 ar a j).trans ?_
      unfold pairAt
      refine congrArg₂ (fun a' j' => if bars (down x1) (down x2) (down y1) (down y2) (down ar) a' j' = true then (1 : EReal) else 0) (Fin.ext ?_) (Fin.ext ?_)
      · rw [Rect.emb_apply]
        show _ = 0 + 1 * a.val
        simp
      · rw [Rect.emb_apply]
        show _ = 0 + 1 * j.val
        simp
  · exact View.cover_of_tiled_head (Val := Elt Ideal) (e := .f32) _ _ _ rfl y
theorem rankPart_0 (s : FVec Ideal S1x1024 .f32) (j : Fin 1024) : rankPart 0#32 s (ix2 0 j)
    = ∑ x : Fin 128, (fun i : Fin 1024 => if comesFirst (along s) i j then (1 : EReal) else 0) ⟨x, by omega⟩ := by
  unfold rankPart backPart
  pointwise
  refine Finset.sum_congr rfl fun x _ => ?_
  have hx : ∑ x_1 : Fin 1024, Scalar.select (IntOp.cmpi CmpIPredicate.eq (IntOp.addi (BitVec.ofNat 32 x) 0#32) (BitVec.ofNat 32 x_1)) (s (ix2 0 x_1)) 0
      = along s ⟨x, by omega⟩ := by
    refine Eq.trans (Finset.sum_congr rfl fun y _ => ?_) (one_place ⟨x, by omega⟩ (along s))
    rw [word_add, word_eq _ _ (by omega) (by omega), select_ofBool]
    simp only [Fin.ext_iff, Nat.zero_add, eq_comm]
  rw [hx, word_add, word_slt _ _ (by omega) (by omega), and_ofBool, or_ofBool, float_ofBool]
  simp only [comesFirst, Fin.lt_def, Nat.zero_add]
theorem rankPart_128 (s : FVec Ideal S1x1024 .f32) (j : Fin 1024) : rankPart 128#32 s (ix2 0 j)
    = ∑ x : Fin 128, (fun i : Fin 1024 => if comesFirst (along s) i j then (1 : EReal) else 0) ⟨128 + x, by omega⟩ := by
  unfold rankPart backPart
  pointwise
  refine Finset.sum_congr rfl fun x _ => ?_
  have hx : ∑ x_1 : Fin 1024, Scalar.select (IntOp.cmpi CmpIPredicate.eq (IntOp.addi (BitVec.ofNat 32 x) 128#32) (BitVec.ofNat 32 x_1)) (s (ix2 0 x_1)) 0
      = along s ⟨128 + x, by omega⟩ := by
    refine Eq.trans (Finset.sum_congr rfl fun y _ => ?_) (one_place ⟨128 + x, by omega⟩ (along s))
    rw [word_add, word_eq _ _ (by omega) (by omega), select_ofBool]
    simp only [Fin.ext_iff, Nat.zero_add, eq_comm]
  rw [hx, word_add, word_slt _ _ (by omega) (by omega), and_ofBool, or_ofBool, float_ofBool]
  simp only [comesFirst, Fin.lt_def, Nat.zero_add]
theorem rankPart_256 (s : FVec Ideal S1x1024 .f32) (j : Fin 1024) : rankPart 256#32 s (ix2 0 j)
    = ∑ x : Fin 128, (fun i : Fin 1024 => if comesFirst (along s) i j then (1 : EReal) else 0) ⟨256 + x, by omega⟩ := by
  unfold rankPart backPart
  pointwise
  refine Finset.sum_congr rfl fun x _ => ?_
  have hx : ∑ x_1 : Fin 1024, Scalar.select (IntOp.cmpi CmpIPredicate.eq (IntOp.addi (BitVec.ofNat 32 x) 256#32) (BitVec.ofNat 32 x_1)) (s (ix2 0 x_1)) 0
      = along s ⟨256 + x, by omega⟩ := by
    refine Eq.trans (Finset.sum_congr rfl fun y _ => ?_) (one_place ⟨256 + x, by omega⟩ (along s))
    rw [word_add, word_eq _ _ (by omega) (by omega), select_ofBool]
    simp only [Fin.ext_iff, Nat.zero_add, eq_comm]
  rw [hx, word_add, word_slt _ _ (by omega) (by omega), and_ofBool, or_ofBool, float_ofBool]
  simp only [comesFirst, Fin.lt_def, Nat.zero_add]
theorem rankPart_384 (s : FVec Ideal S1x1024 .f32) (j : Fin 1024) : rankPart 384#32 s (ix2 0 j)
    = ∑ x : Fin 128, (fun i : Fin 1024 => if comesFirst (along s) i j then (1 : EReal) else 0) ⟨384 + x, by omega⟩ := by
  unfold rankPart backPart
  pointwise
  refine Finset.sum_congr rfl fun x _ => ?_
  have hx : ∑ x_1 : Fin 1024, Scalar.select (IntOp.cmpi CmpIPredicate.eq (IntOp.addi (BitVec.ofNat 32 x) 384#32) (BitVec.ofNat 32 x_1)) (s (ix2 0 x_1)) 0
      = along s ⟨384 + x, by omega⟩ := by
    refine Eq.trans (Finset.sum_congr rfl fun y _ => ?_) (one_place ⟨384 + x, by omega⟩ (along s))
    rw [word_add, word_eq _ _ (by omega) (by omega), select_ofBool]
    simp only [Fin.ext_iff, Nat.zero_add, eq_comm]
  rw [hx, word_add, word_slt _ _ (by omega) (by omega), and_ofBool, or_ofBool, float_ofBool]
  simp only [comesFirst, Fin.lt_def, Nat.zero_add]
theorem rankPart_512 (s : FVec Ideal S1x1024 .f32) (j : Fin 1024) : rankPart 512#32 s (ix2 0 j)
    = ∑ x : Fin 128, (fun i : Fin 1024 => if comesFirst (along s) i j then (1 : EReal) else 0) ⟨512 + x, by omega⟩ := by
  unfold rankPart backPart
  pointwise
  refine Finset.sum_congr rfl fun x _ => ?_
  have hx : ∑ x_1 : Fin 1024, Scalar.select (IntOp.cmpi CmpIPredicate.eq (IntOp.addi (BitVec.ofNat 32 x) 512#32) (BitVec.ofNat 32 x_1)) (s (ix2 0 x_1)) 0
      = along s ⟨512 + x, by omega⟩ := by
    refine Eq.trans (Finset.sum_congr rfl fun y _ => ?_) (one_place ⟨512 + x, by omega⟩ (along s))
    rw [word_add, word_eq _ _ (by omega) (by omega), select_ofBool]
    simp only [Fin.ext_iff, Nat.zero_add, eq_comm]
  rw [hx, word_add, word_slt _ _ (by omega) (by omega), and_ofBool, or_ofBool, float_ofBool]
  simp only [comesFirst, Fin.lt_def, Nat.zero_add]
theorem rankPart_640 (s : FVec Ideal S1x1024 .f32) (j : Fin 1024) : rankPart 640#32 s (ix2 0 j)
    = ∑ x : Fin 128, (fun i : Fin 1024 => if comesFirst (along s) i j then (1 : EReal) else 0) ⟨640 + x, by omega⟩ := by
  unfold rankPart backPart
  pointwise
  refine Finset.sum_congr rfl fun x _ => ?_
  have hx : ∑ x_1 : Fin 1024, Scalar.select (IntOp.cmpi CmpIPredicate.eq (IntOp.addi (BitVec.ofNat 32 x) 640#32) (BitVec.ofNat 32 x_1)) (s (ix2 0 x_1)) 0
      = along s ⟨640 + x, by omega⟩ := by
    refine Eq.trans (Finset.sum_congr rfl fun y _ => ?_) (one_place ⟨640 + x, by omega⟩ (along s))
    rw [word_add, word_eq _ _ (by omega) (by omega), select_ofBool]
    simp only [Fin.ext_iff, Nat.zero_add, eq_comm]
  rw [hx, word_add, word_slt _ _ (by omega) (by omega), and_ofBool, or_ofBool, float_ofBool]
  simp only [comesFirst, Fin.lt_def, Nat.zero_add]
theorem rankPart_768 (s : FVec Ideal S1x1024 .f32) (j : Fin 1024) : rankPart 768#32 s (ix2 0 j)
    = ∑ x : Fin 128, (fun i : Fin 1024 => if comesFirst (along s) i j then (1 : EReal) else 0) ⟨768 + x, by omega⟩ := by
  unfold rankPart backPart
  pointwise
  refine Finset.sum_congr rfl fun x _ => ?_
  have hx : ∑ x_1 : Fin 1024, Scalar.select (IntOp.cmpi CmpIPredicate.eq (IntOp.addi (BitVec.ofNat 32 x) 768#32) (BitVec.ofNat 32 x_1)) (s (ix2 0 x_1)) 0
      = along s ⟨768 + x, by omega⟩ := by
    refine Eq.trans (Finset.sum_congr rfl fun y _ => ?_) (one_place ⟨768 + x, by omega⟩ (along s))
    rw [word_add, word_eq _ _ (by omega) (by omega), select_ofBool]
    simp only [Fin.ext_iff, Nat.zero_add, eq_comm]
  rw [hx, word_add, word_slt _ _ (by omega) (by omega), and_ofBool, or_ofBool, float_ofBool]
  simp only [comesFirst, Fin.lt_def, Nat.zero_add]
theorem rankPart_896 (s : FVec Ideal S1x1024 .f32) (j : Fin 1024) : rankPart 896#32 s (ix2 0 j)
    = ∑ x : Fin 128, (fun i : Fin 1024 => if comesFirst (along s) i j then (1 : EReal) else 0) ⟨896 + x, by omega⟩ := by
  unfold rankPart backPart
  pointwise
  refine Finset.sum_congr rfl fun x _ => ?_
  have hx : ∑ x_1 : Fin 1024, Scalar.select (IntOp.cmpi CmpIPredicate.eq (IntOp.addi (BitVec.ofNat 32 x) 896#32) (BitVec.ofNat 32 x_1)) (s (ix2 0 x_1)) 0
      = along s ⟨896 + x, by omega⟩ := by
    refine Eq.trans (Finset.sum_congr rfl fun y _ => ?_) (one_place ⟨896 + x, by omega⟩ (along s))
    rw [word_add, word_eq _ _ (by omega) (by omega), select_ofBool]
    simp only [Fin.ext_iff, Nat.zero_add, eq_comm]
  rw [hx, word_add, word_slt _ _ (by omega) (by omega), and_ofBool, or_ofBool, float_ofBool]
  simp only [comesFirst, Fin.lt_def, Nat.zero_add]
/-- The rank of a score is how many come before it. -/
theorem rank_at (s : FVec Ideal S1x1024 .f32) (j : Fin 1024) : along (rank s) j = ((ahead (along s) j : ℝ) : EReal) := by
  unfold rank along
  pointwise
  rw [rankPart_0, rankPart_128, rankPart_256, rankPart_384, rankPart_512, rankPart_640, rankPart_768, rankPart_896]
  exact (eight_chunks fun i => if comesFirst (along s) i j then (1 : EReal) else 0).trans (count fun i => comesFirst (along s) i j)

/-- The score at a rank is that of the box placed there. -/
theorem rank_eq (s : FVec Ideal S1x1024 .f32) (x r : Fin 1024) :
    rank s (ix2 0 x) = ((r.val : ℝ) : EReal) ↔ x = placed (along s) r := by
  rw [show rank s (ix2 0 x) = _ from rank_at s x, real_inj]
  exact ahead_eq_iff (along s) x r

theorem outScores_0 (s : FVec Ideal S1x1024 .f32) (a : Fin 128) (r : Fin 1024) (hr : r.val = 0 + a.val) :
    outScores 0#32 (rank s) s (ix3 0 a 0) = if 0 < along s (placed (along s) r) then along s (placed (along s) r) else 0 := by
  have hs : ∑ x : Fin 1024, (if rank s (ix2 0 x) = FloatOps.sitofp .f32 (IntOp.addi (BitVec.ofNat 32 a) 0#32) then s (ix2 0 x) else 0)
      = along s (placed (along s) r) := by
    refine Eq.trans (Finset.sum_congr rfl fun x _ => ?_) (one_place (placed (along s) r) (along s))
    rw [word_add, ← hr, float_ofNat _ (by omega)]
    simp only [rank_eq s x r]
  unfold outScores pickPos pickScore hit
  pointwise
  rw [hs]
theorem outLabels_0 (s : FVec Ideal S1x1024 .f32) (g : Vec Ideal S1024x8 .f32) (a : Fin 128) (r : Fin 1024) (hr : r.val = 0 + a.val) :
    outLabels 0#32 (rank s) s g (ix3 0 a 0) = FloatOps.fptosi 32 (if 0 < along s (placed (along s) r) then g (ix2 (placed (along s) r) 7) else (0 : Ideal .f32)) := by
  have hs : ∑ x : Fin 1024, (if rank s (ix2 0 x) = FloatOps.sitofp .f32 (IntOp.addi (BitVec.ofNat 32 a) 0#32) then s (ix2 0 x) else 0)
      = along s (placed (along s) r) := by
    refine Eq.trans (Finset.sum_congr rfl fun x _ => ?_) (one_place (placed (along s) r) (along s))
    rw [word_add, ← hr, float_ofNat _ (by omega)]
    simp only [rank_eq s x r]
  unfold outLabels pickPos pickScore pickRows hit
  pointwise
  rw [hs]
  refine congrArg (fun v : EReal => FloatOps.fptosi 32 (if 0 < along s (placed (along s) r) then v else (0 : Ideal .f32))) ?_
  refine Eq.trans (Finset.sum_congr rfl fun x _ => ?_) (one_place_mul (placed (along s) r) fun x => g (ix2 x 7))
  rw [word_add, ← hr, float_ofNat _ (by omega), float_ofBool]
  simp only [rank_eq s x r]
theorem outBoxes_0 (s : FVec Ideal S1x1024 .f32) (g : Vec Ideal S1024x8 .f32) (a : Fin 128) (k : Fin 7) (r : Fin 1024) (hr : r.val = 0 + a.val) :
    outBoxes 0#32 (rank s) g (ix3 0 a k) = g (ix2 (placed (along s) r) ⟨k, by omega⟩) := by
  unfold outBoxes pickRows hit
  pointwise
  refine Eq.trans (Finset.sum_congr rfl fun x _ => ?_) (one_place_mul (placed (along s) r) fun x => g (ix2 x ⟨k, by omega⟩))
  rw [word_add, ← hr, float_ofNat _ (by omega), float_ofBool]
  simp only [rank_eq s x r]
theorem outScores_128 (s : FVec Ideal S1x1024 .f32) (a : Fin 128) (r : Fin 1024) (hr : r.val = 128 + a.val) :
    outScores 128#32 (rank s) s (ix3 0 a 0) = if 0 < along s (placed (along s) r) then along s (placed (along s) r) else 0 := by
  have hs : ∑ x : Fin 1024, (if rank s (ix2 0 x) = FloatOps.sitofp .f32 (IntOp.addi (BitVec.ofNat 32 a) 128#32) then s (ix2 0 x) else 0)
      = along s (placed (along s) r) := by
    refine Eq.trans (Finset.sum_congr rfl fun x _ => ?_) (one_place (placed (along s) r) (along s))
    rw [word_add, ← hr, float_ofNat _ (by omega)]
    simp only [rank_eq s x r]
  unfold outScores pickPos pickScore hit
  pointwise
  rw [hs]
theorem outLabels_128 (s : FVec Ideal S1x1024 .f32) (g : Vec Ideal S1024x8 .f32) (a : Fin 128) (r : Fin 1024) (hr : r.val = 128 + a.val) :
    outLabels 128#32 (rank s) s g (ix3 0 a 0) = FloatOps.fptosi 32 (if 0 < along s (placed (along s) r) then g (ix2 (placed (along s) r) 7) else (0 : Ideal .f32)) := by
  have hs : ∑ x : Fin 1024, (if rank s (ix2 0 x) = FloatOps.sitofp .f32 (IntOp.addi (BitVec.ofNat 32 a) 128#32) then s (ix2 0 x) else 0)
      = along s (placed (along s) r) := by
    refine Eq.trans (Finset.sum_congr rfl fun x _ => ?_) (one_place (placed (along s) r) (along s))
    rw [word_add, ← hr, float_ofNat _ (by omega)]
    simp only [rank_eq s x r]
  unfold outLabels pickPos pickScore pickRows hit
  pointwise
  rw [hs]
  refine congrArg (fun v : EReal => FloatOps.fptosi 32 (if 0 < along s (placed (along s) r) then v else (0 : Ideal .f32))) ?_
  refine Eq.trans (Finset.sum_congr rfl fun x _ => ?_) (one_place_mul (placed (along s) r) fun x => g (ix2 x 7))
  rw [word_add, ← hr, float_ofNat _ (by omega), float_ofBool]
  simp only [rank_eq s x r]
theorem outBoxes_128 (s : FVec Ideal S1x1024 .f32) (g : Vec Ideal S1024x8 .f32) (a : Fin 128) (k : Fin 7) (r : Fin 1024) (hr : r.val = 128 + a.val) :
    outBoxes 128#32 (rank s) g (ix3 0 a k) = g (ix2 (placed (along s) r) ⟨k, by omega⟩) := by
  unfold outBoxes pickRows hit
  pointwise
  refine Eq.trans (Finset.sum_congr rfl fun x _ => ?_) (one_place_mul (placed (along s) r) fun x => g (ix2 x ⟨k, by omega⟩))
  rw [word_add, ← hr, float_ofNat _ (by omega), float_ofBool]
  simp only [rank_eq s x r]

/-- The row of ones and zeros of the boxes kept after `k` steps. -/
def keptRow (br : Fin 1024 → Fin 1024 → Bool) (k : ℕ) (y : S1x1024.Idx) : EReal := if keepAt br k (y 1) = true then 1 else 0

theorem trips_eq : k1_t2_loop.trips = 1024 := by decide
theorem lowest : Ideal.ofBits .f32 4286578688#32 = ⊥ := by simp [Ideal.ofBits, Ideal.ieee]

/-- One trip of the greedy loop drops the boxes that the trip's box drops, if that one is still kept. -/
theorem step_at (br : Fin 1024 → Fin 1024 → Bool) (k : Fin k1_t2_loop.trips) (rk : FVec Ideal S1x1024 .f32) (g : Vec Ideal S1x1024 .f32)
    (hrk : rk = keptRow br k) (hg : ∀ j : Fin 1024, g (ix2 0 j) = if br (turnOf k) j = true then (1 : EReal) else 0) :
    k1_pay66 (F := Ideal) k rk g = keptRow br (k.val + 1) := by
  have hk : k.val < 1024 := trips_eq ▸ k.isLt
  have hrk' : ∀ j : Fin 1024, rk (ix2 0 j) = if keepAt br k j = true then (1 : EReal) else 0 := fun j => by rw [hrk]; rfl
  funext j
  unfold k1_pay66
  idx_vars j
  pointwise
  have hm : Finset.fold max (Ideal.ofBits .f32 4286578688#32) (fun x : Fin 1 × Fin 1024 => Scalar.select (IntOp.cmpi .eq (BitVec.ofNat 32 x.2) (Scf.iv 0#32 1#32 k)) (rk (ix2 0 x.2)) 0) Finset.univ
      = if keepAt br k (turnOf k) = true then 1 else 0 := by
    have hf : ∀ x : Fin 1 × Fin 1024, Scalar.select (IntOp.cmpi .eq (BitVec.ofNat 32 x.2) (Scf.iv 0#32 1#32 k)) (rk (ix2 0 x.2)) 0
        = if x.2 = turnOf k then (if keepAt br k (turnOf k) = true then (1 : EReal) else 0) else 0 := by
      intro x
      rw [show Scf.iv 0#32 1#32 k.val = BitVec.ofNat 32 k.val by simp [Scf.iv], word_eq _ _ (by omega) (by omega), select_ofBool, hrk']
      by_cases h : x.2 = turnOf k
      · rw [if_pos h, h, if_pos (show (turnOf k).val = k.val from Nat.mod_eq_of_lt hk)]
      · rw [if_neg h, if_neg fun h' => h (Fin.ext (h'.trans (Nat.mod_eq_of_lt hk).symm))]
    rw [lowest]
    simp only [hf]
    refine le_antisymm ?_ ?_
    · refine Finset.fold_max_le _ |>.mpr ⟨bot_le, fun x _ => ?_⟩
      by_cases h : x.2 = turnOf k
      · rw [if_pos h]
      · rw [if_neg h]
        split
        · exact zero_le_one
        · exact le_refl _
    · refine Finset.le_fold_max _ |>.mpr (Or.inr ⟨(0, turnOf k), Finset.mem_univ _, ?_⟩)
      rw [if_pos rfl]
  rw [hm]
  obtain rfl : j0 = 0 := Subsingleton.elim _ _
  rw [hrk', hg]
  show _ = if keepAt br (k.val + 1) j1 = true then (1 : EReal) else 0
  have h11 : (1 : EReal) - 1 = 0 := EReal.sub_self (EReal.coe_ne_top 1) (EReal.coe_ne_bot 1)
  rcases hA : keepAt br k j1 <;> rcases hB : br (turnOf k) j1 <;> rcases hC : keepAt br k (turnOf k) <;> simp [keepAt, hA, hB, hC, h11]

end Cert.KernelIdeal.Pf
end
-- ==== Proof.KernelIdealLoop.lean ====
/- The second kernel's two loops over the extended reals: the rows gathered and the boxes kept. -/
module

public import proofs.«01_k».proof.Proof.KernelIdealPoint

@[expose] public section

set_option maxRecDepth 16384

noncomputable section

namespace Cert.KernelIdeal.Pf
open Idealize.ShloMosaic.Pointwise
open Cert.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

set_option backward.isDefEq.respectTransparency.types false

section

variable  (c : Dev nD) (i : grid1.Coords) (arg1 : Memref sig .tc .vmem S1x20000x8 .f32) (harg1 : arg1.IsWhole) (arg2 : Memref sig .tc .smem S1x1x1024 .i32) (harg2 : arg2.IsWhole) (arg3 : Memref sig .tc .vmem S1x1x1024 .f32) (harg3 : arg3.IsWhole) (arg4 : Memref sig .tc .vmem S1x256x7 .f32) (harg4 : arg4.IsWhole) (arg5 : Memref sig .tc .vmem S1x256x1 .f32) (harg5 : arg5.IsWhole) (arg6 : Memref sig .tc .vmem S1x256x1 .i32) (harg6 : arg6.IsWhole) (arg7 : Memref sig .tc .vmem S1024x8 .f32) (harg7 : arg7.IsWhole) (arg8 : Memref sig .tc .vmem S1024x1024 .f32) (harg8 : arg8.IsWhole)

theorem tripR_eq (v508 : IVec S128x1024 32) (v857 : FVec Ideal S128x1024 .f32) (X : BufTy.Contents (Elt Ideal) arg8.view.ty) (k : Fin k1_t2_loop.trips) (acc : FVec Ideal S1x1024 .f32) :
    tripR_k1_t2 Variants.none c none i arg1 harg1 arg2 harg2 arg3 harg3 arg4 harg4 arg5 harg5 arg6 harg6 arg7 harg7 arg8 harg8 v508 v857 X k acc
      = k1_pay66 k acc (View.readAt (Elt Ideal) arg8.view (Rect.unit (s := S1024x1024) (k1_off4 k) S1x1024.size (k1_off4_inb k)).toLoadRect X) := by
  unfold tripR_k1_t2 trip_k1_t2
  rfl

theorem off4_eq (k : Fin k1_t2_loop.trips) : k1_off4 k = ![k.val, 0] := by
  have hk : k.val < 1024 := trips_eq ▸ k.isLt
  unfold k1_off4
  simp [Scf.iv, Scalar.indexCast]
  omega

/-- The greedy loop's row after `k` trips. -/
theorem kept_at (v508 : IVec S128x1024 32) (v857 : FVec Ideal S128x1024 .f32) (x1 x2 y1 y2 ar : FVec Ideal S1024x1 .f32) (k : ℕ) (hk : k ≤ k1_t2_loop.trips) :
    st_k1_t2 Variants.none c none i arg1 harg1 arg2 harg2 arg3 harg3 arg4 harg4 arg5 harg5 arg6 harg6 arg7 harg7 arg8 harg8 v508 v857 (arg8.view.writes (Elt Ideal) arg8.view.junk (pairs x1 x2 y1 y2 ar)) k1_pay65 k
      = keptRow (bars (down x1) (down x2) (down y1) (down y2) (down ar)) k := by
  induction k with
  | zero =>
    rw [st_k1_t2_zero]
    funext j
    unfold k1_pay65
    idx_vars j
    pointwise
    rfl
  | succ k ih =>
    have hk' : k < k1_t2_loop.trips := hk
    refine (st_k1_t2_succ Variants.none c none i arg1 harg1 arg2 harg2 arg3 harg3 arg4 harg4 arg5 harg5 arg6 harg6 arg7 harg7 arg8 harg8 v508 v857 _ k1_pay65 ⟨k, hk'⟩).trans ?_
    rw [tripR_eq]
    refine step_at _ ⟨k, hk'⟩ _ _ (ih (Nat.le_of_lt hk)) fun j => ?_
    rw [View.readAt_writes_junk_eq_canon]
    show View.canon _ _ = _
    rw [pairs_at]
    unfold pairAt
    refine congrArg₂ (fun a' j' => if bars (down x1) (down x2) (down y1) (down y2) (down ar) a' j' = true then (1 : EReal) else 0) (Fin.ext ?_) (Fin.ext ?_)
    · show k1_off4 ⟨k, hk'⟩ 0 + 1 * 0 = k % 1024
      have hk2 : k < 1024 := trips_eq ▸ hk'
      rw [off4_eq, Nat.mod_eq_of_lt hk2]
      rfl
    · show k1_off4 ⟨k, hk'⟩ 1 + 1 * j.val = j.val
      rw [off4_eq]
      simp

theorem trips1_eq : k1_t1_loop.trips = 1024 := by decide

section
variable (X1 : BufTy.Contents (Elt Ideal) arg1.view.ty) (X2 : BufTy.Contents (Elt Ideal) arg2.view.ty)
/-- The word a trip of the gather reads. -/
abbrev wordAt (k : Fin k1_t1_loop.trips) : BitVec 32 :=
  View.readAt (Elt Ideal) arg2.view (Rect.unit (s := S1x1x1024) (k1_off1 k) S1x1x1.size (k1_off1_inb k)).toLoadRect X2 (Shape.Idx.first (numel1_S1x1x1.symm ▸ Nat.one_pos))
theorem tripL_eq (k : Fin k1_t1_loop.trips) (hw : k1_chk1 (wordAt arg2 X2 k)) :
    tripL_k1_t1 Variants.none c none i arg1 harg1 arg2 harg2 arg3 harg3 arg4 harg4 arg5 harg5 arg6 harg6 arg7 harg7 arg8 harg8 X1 X2 k hw
      = [⟨Rect.unit (s := S1024x8) (k1_off3 k) S1x8.size (k1_off3_inb k),
          k1_pay2 (View.readAt (Elt Ideal) arg1.view (Rect.unit (s := S1x20000x8) (k1_off2 (wordAt arg2 X2 k)) S1x1x8.size (k1_off2_inb _ hw)).toLoadRect X1)⟩] := by
  unfold tripL_k1_t1 trip_k1_t1
  rfl
end

theorem off1_eq (k : Fin k1_t1_loop.trips) : k1_off1 k = ![0, 0, k.val] := by
  have hk : k.val < 1024 := trips1_eq ▸ k.isLt
  unfold k1_off1
  simp [Scf.iv, Scalar.indexCast]
  omega
theorem off3_eq (k : Fin k1_t1_loop.trips) : k1_off3 k = ![k.val, 0] := by
  have hk : k.val < 1024 := trips1_eq ▸ k.isLt
  unfold k1_off3
  simp [Scf.iv, Scalar.indexCast]
  omega

/-- The word read by a trip is that of the list of row numbers. -/
theorem word_at (x1 : Vec Ideal S1x1x1024 .i32) (k : Fin k1_t1_loop.trips) (j : Fin 1024) (hj : j.val = k.val) :
    wordAt arg2 (harg2.unread x1) k = x1 (ix3 0 0 j) := by
  unfold wordAt
  rw [View.readAt_apply, harg2.read_unread]
  refine congrArg x1 (funext fun a => Fin.ext ?_)
  fin_cases a
  · show k1_off1 k 0 + 1 * 0 = 0
    rw [off1_eq]; rfl
  · show k1_off1 k 1 + 1 * 0 = 0
    rw [off1_eq]; rfl
  · show k1_off1 k 2 + 1 * 0 = j.val
    rw [off1_eq, hj]; rfl

/-- The rows the list names, of the table. -/
def rowsOf (x0 : Vec Ideal S1x20000x8 .f32) (x1 : Vec Ideal S1x1x1024 .i32) (y : S1024x8.Idx) : EReal :=
  x0 (ix3 0 ⟨(x1 (ix3 0 0 (y 0))).toNat % 20000, Nat.mod_lt _ (by decide)⟩ (y 1))

theorem piece_at (x0 : Vec Ideal S1x20000x8 .f32) (x1 : Vec Ideal S1x1x1024 .i32) (k : Fin k1_t1_loop.trips) (hw : k1_chk1 (wordAt arg2 (harg2.unread x1) k))
    (q : S1x8.Idx) :
    k1_pay2 (F := Ideal) (View.readAt (Elt Ideal) arg1.view (Rect.unit (s := S1x20000x8) (k1_off2 (wordAt arg2 (harg2.unread x1) k)) S1x1x8.size (k1_off2_inb _ hw)).toLoadRect (harg1.unread x0)) q
      = rowsOf x0 x1 ((Rect.unit (s := S1024x8) (k1_off3 k) S1x8.size (k1_off3_inb k)).emb q) := by
  have hk : k.val < 1024 := trips1_eq ▸ k.isLt
  unfold k1_pay2
  idx_vars q
  pointwise
  rw [View.readAt_apply, harg1.read_unread]
  unfold rowsOf
  have hb : (wordAt arg2 (harg2.unread x1) k).toNat + 1 ≤ 20000 := hw 1
  have he : (Rect.unit (s := S1024x8) (k1_off3 k) S1x8.size (k1_off3_inb k)).emb (ix2 q0 q1) 0 = (⟨k.val, hk⟩ : Fin 1024) := by
    refine Fin.ext ?_
    show k1_off3 k 0 + 1 * q0.val = k.val
    rw [off3_eq]
    show k.val + 1 * q0.val = k.val
    omega
  have hword : x1 (ix3 0 0 ((Rect.unit (s := S1024x8) (k1_off3 k) S1x8.size (k1_off3_inb k)).emb (ix2 q0 q1) 0)) = wordAt arg2 (harg2.unread x1) k := by
    rw [he]; exact (word_at arg2 harg2 x1 k ⟨k.val, hk⟩ rfl).symm
  refine congrArg x0 (funext fun a => Fin.ext ?_)
  fin_cases a
  · rfl
  · refine Eq.trans ?_ (congrArg (fun w : BitVec 32 => w.toNat % 20000) hword).symm
    show (wordAt arg2 (harg2.unread x1) k).toNat + 1 * 0 = (wordAt arg2 (harg2.unread x1) k).toNat % 20000
    omega
  · show 0 + 1 * q1.val = k1_off3 k 1 + 1 * q1.val
    rw [off3_eq]; rfl

section
variable (x0 : Vec Ideal S1x20000x8 .f32) (x1 : Vec Ideal S1x1x1024 .i32)
  (hw : ∀ (kq : ℕ) (hkq : kq < k1_t1_loop.trips), k1_chk1 (wordAt arg2 (harg2.unread x1) ⟨kq, hkq⟩))

theorem pieces_at (k : ℕ) (hk : k ≤ k1_t1_loop.trips) :
    (∀ p ∈ pb_k1_t1 Variants.none c none i arg1 harg1 arg2 harg2 arg3 harg3 arg4 harg4 arg5 harg5 arg6 harg6 arg7 harg7 arg8 harg8 (harg1.unread x0) (harg2.unread x1) hw k, ∀ q : p.1.shape.Idx, p.2 q = rowsOf x0 x1 (p.1.emb q))
    ∧ ∀ y : S1024x8.Idx, (y 0).val < k → ∃ p ∈ pb_k1_t1 Variants.none c none i arg1 harg1 arg2 harg2 arg3 harg3 arg4 harg4 arg5 harg5 arg6 harg6 arg7 harg7 arg8 harg8 (harg1.unread x0) (harg2.unread x1) hw k, y ∈ p.1.set := by
  induction k with
  | zero =>
    refine ⟨fun p hp => ?_, fun y hy => absurd hy (Nat.not_lt_zero _)⟩
    exact absurd hp List.not_mem_nil
  | succ k ih =>
    have hk' : k < k1_t1_loop.trips := hk
    have hk2 : k < 1024 := trips1_eq ▸ hk'
    obtain ⟨ih1, ih2⟩ := ih (Nat.le_of_lt hk)
    have hs := pb_k1_t1_succ Variants.none c none i arg1 harg1 arg2 harg2 arg3 harg3 arg4 harg4 arg5 harg5 arg6 harg6 arg7 harg7 arg8 harg8 (harg1.unread x0) (harg2.unread x1) hw ⟨k, hk'⟩
    rw [tripL_eq] at hs
    constructor
    · intro p hp
      rw [hs] at hp
      rcases List.mem_cons.mp hp with rfl | hp
      · intro q
        exact piece_at arg1 harg1 arg2 harg2 x0 x1 ⟨k, hk'⟩ (hw k hk') q
      · exact ih1 p hp
    · intro y hy
      rw [hs]
      by_cases hy' : (y 0).val < k
      · obtain ⟨p, hp, hm⟩ := ih2 y hy'
        exact ⟨p, List.mem_cons_of_mem _ hp, hm⟩
      · have hm : y ∈ (Rect.unit (s := S1024x8) (k1_off3 ⟨k, hk'⟩) S1x8.size (k1_off3_inb ⟨k, hk'⟩)).set := by
          refine Rect.mem_set_unit.mpr fun a => ?_
          rw [off3_eq]
          fin_cases a
          · show k ≤ (y 0).val ∧ (y 0).val < k + 1
            omega
          · show 0 ≤ (y 1).val ∧ (y 1).val < 0 + 8
            exact ⟨Nat.zero_le _, by have := (y 1).isLt; simpa using this⟩
        exact ⟨_, List.mem_cons_self, hm⟩

/-- What the gather leaves in the first scratch buffer. -/
theorem gathered_at (y : S1024x8.Idx) :
    View.canon (Val := Elt Ideal) (pb_k1_t1 Variants.none c none i arg1 harg1 arg2 harg2 arg3 harg3 arg4 harg4 arg5 harg5 arg6 harg6 arg7 harg7 arg8 harg8 (harg1.unread x0) (harg2.unread x1) hw (Scf.trips k1_t1_loop.lb k1_t1_loop.ub k1_t1_loop.st)) y = rowsOf x0 x1 y := by
  obtain ⟨h1, h2⟩ := pieces_at c i arg1 harg1 arg2 harg2 arg3 harg3 arg4 harg4 arg5 harg5 arg6 harg6 arg7 harg7 arg8 harg8 x0 x1 hw k1_t1_loop.trips le_rfl
  have := View.canon_append_of_pieces (Val := Elt Ideal) (e := .f32) (rowsOf x0 x1) [] _ h1 y (h2 y (by rw [trips1_eq]; exact (y 0).isLt))
  rw [List.append_nil] at this
  exact this

/-- A read of the gathered rows. -/
theorem read_rows (rr : LoadRect S1024x8) (q : rr.shape.Idx) : gathered c i arg1 harg1 arg2 harg2 arg3 harg3 arg4 harg4 arg5 harg5 arg6 harg6 arg7 harg7 arg8 harg8 x0 x1 hw rr q = rowsOf x0 x1 (rr.idx q) := by
  unfold gathered
  rw [View.readCov_eq_canon']
  exact gathered_at c i arg1 harg1 arg2 harg2 arg3 harg3 arg4 harg4 arg5 harg5 arg6 harg6 arg7 harg7 arg8 harg8 x0 x1 hw (rr.idx q)

theorem all_rows (y : S1024x8.Idx) : nmsRun.sl.r_49 c i arg1 harg1 arg2 harg2 arg3 harg3 arg4 harg4 arg5 harg5 arg6 harg6 arg7 harg7 arg8 harg8 x0 x1 hw y = rowsOf x0 x1 y := by
  refine (read_rows c i arg1 harg1 arg2 harg2 arg3 harg3 arg4 harg4 arg5 harg5 arg6 harg6 arg7 harg7 arg8 harg8 x0 x1 hw (Rect.unit (s := S1024x8) ![0, 0] S1024x8.size inb_S1024x8_S1024x8_0_0).toLoadRect y).trans ?_
  refine congrArg (rowsOf x0 x1) (funext fun a => Fin.ext ?_)
  show ![0, 0] a + 1 * (y a).val = (y a).val
  fin_cases a <;> simp
theorem col_0 (j : Fin 1024) : gathered c i arg1 harg1 arg2 harg2 arg3 harg3 arg4 harg4 arg5 harg5 arg6 harg6 arg7 harg7 arg8 harg8 x0 x1 hw (Rect.unit (s := S1024x8) ![0, 0] S1024x1.size inb_S1024x8_S1024x1_0_0).toLoadRect (ix2 j 0) = rowsOf x0 x1 (ix2 j 0) := by
  refine (read_rows c i arg1 harg1 arg2 harg2 arg3 harg3 arg4 harg4 arg5 harg5 arg6 harg6 arg7 harg7 arg8 harg8 x0 x1 hw _ _).trans ?_
  refine congrArg (rowsOf x0 x1) (funext fun a => Fin.ext ?_)
  fin_cases a
  · show 0 + 1 * j.val = j.val
    omega
  · rfl
theorem col_1 (j : Fin 1024) : gathered c i arg1 harg1 arg2 harg2 arg3 harg3 arg4 harg4 arg5 harg5 arg6 harg6 arg7 harg7 arg8 harg8 x0 x1 hw (Rect.unit (s := S1024x8) ![0, 1] S1024x1.size inb_S1024x8_S1024x1_0_1).toLoadRect (ix2 j 0) = rowsOf x0 x1 (ix2 j 1) := by
  refine (read_rows c i arg1 harg1 arg2 harg2 arg3 harg3 arg4 harg4 arg5 harg5 arg6 harg6 arg7 harg7 arg8 harg8 x0 x1 hw _ _).trans ?_
  refine congrArg (rowsOf x0 x1) (funext fun a => Fin.ext ?_)
  fin_cases a
  · show 0 + 1 * j.val = j.val
    omega
  · rfl
theorem col_3 (j : Fin 1024) : gathered c i arg1 harg1 arg2 harg2 arg3 harg3 arg4 harg4 arg5 harg5 arg6 harg6 arg7 harg7 arg8 harg8 x0 x1 hw (Rect.unit (s := S1024x8) ![0, 3] S1024x1.size inb_S1024x8_S1024x1_0_3).toLoadRect (ix2 j 0) = rowsOf x0 x1 (ix2 j 3) := by
  refine (read_rows c i arg1 harg1 arg2 harg2 arg3 harg3 arg4 harg4 arg5 harg5 arg6 harg6 arg7 harg7 arg8 harg8 x0 x1 hw _ _).trans ?_
  refine congrArg (rowsOf x0 x1) (funext fun a => Fin.ext ?_)
  fin_cases a
  · show 0 + 1 * j.val = j.val
    omega
  · rfl
theorem col_4 (j : Fin 1024) : gathered c i arg1 harg1 arg2 harg2 arg3 harg3 arg4 harg4 arg5 harg5 arg6 harg6 arg7 harg7 arg8 harg8 x0 x1 hw (Rect.unit (s := S1024x8) ![0, 4] S1024x1.size inb_S1024x8_S1024x1_0_4).toLoadRect (ix2 j 0) = rowsOf x0 x1 (ix2 j 4) := by
  refine (read_rows c i arg1 harg1 arg2 harg2 arg3 harg3 arg4 harg4 arg5 harg5 arg6 harg6 arg7 harg7 arg8 harg8 x0 x1 hw _ _).trans ?_
  refine congrArg (rowsOf x0 x1) (funext fun a => Fin.ext ?_)
  fin_cases a
  · show 0 + 1 * j.val = j.val
    omega
  · rfl
theorem down_r (j : Fin 1024) : down (nmsRun.sl.r c i arg1 harg1 arg2 harg2 arg3 harg3 arg4 harg4 arg5 harg5 arg6 harg6 arg7 harg7 arg8 harg8 x0 x1 hw) j = rowsOf x0 x1 (ix2 j 0) - rowsOf x0 x1 (ix2 j 3) * half := by
  show k1_pay3 (gathered c i arg1 harg1 arg2 harg2 arg3 harg3 arg4 harg4 arg5 harg5 arg6 harg6 arg7 harg7 arg8 harg8 x0 x1 hw (Rect.unit (s := S1024x8) ![0, 0] S1024x1.size inb_S1024x8_S1024x1_0_0).toLoadRect) (gathered c i arg1 harg1 arg2 harg2 arg3 harg3 arg4 harg4 arg5 harg5 arg6 harg6 arg7 harg7 arg8 harg8 x0 x1 hw (Rect.unit (s := S1024x8) ![0, 3] S1024x1.size inb_S1024x8_S1024x1_0_3).toLoadRect) (ix2 j 0) = _
  rw [← col_0 c i arg1 harg1 arg2 harg2 arg3 harg3 arg4 harg4 arg5 harg5 arg6 harg6 arg7 harg7 arg8 harg8 x0 x1 hw j, ← col_3 c i arg1 harg1 arg2 harg2 arg3 harg3 arg4 harg4 arg5 harg5 arg6 harg6 arg7 harg7 arg8 harg8 x0 x1 hw j]
  unfold k1_pay3
  pointwise
theorem down_r_1 (j : Fin 1024) : down (nmsRun.sl.r_1 c i arg1 harg1 arg2 harg2 arg3 harg3 arg4 harg4 arg5 harg5 arg6 harg6 arg7 harg7 arg8 harg8 x0 x1 hw) j = rowsOf x0 x1 (ix2 j 0) + rowsOf x0 x1 (ix2 j 3) * half := by
  show k1_pay4 (gathered c i arg1 harg1 arg2 harg2 arg3 harg3 arg4 harg4 arg5 harg5 arg6 harg6 arg7 harg7 arg8 harg8 x0 x1 hw (Rect.unit (s := S1024x8) ![0, 0] S1024x1.size inb_S1024x8_S1024x1_0_0).toLoadRect) (gathered c i arg1 harg1 arg2 harg2 arg3 harg3 arg4 harg4 arg5 harg5 arg6 harg6 arg7 harg7 arg8 harg8 x0 x1 hw (Rect.unit (s := S1024x8) ![0, 3] S1024x1.size inb_S1024x8_S1024x1_0_3).toLoadRect) (ix2 j 0) = _
  rw [← col_0 c i arg1 harg1 arg2 harg2 arg3 harg3 arg4 harg4 arg5 harg5 arg6 harg6 arg7 harg7 arg8 harg8 x0 x1 hw j, ← col_3 c i arg1 harg1 arg2 harg2 arg3 harg3 arg4 harg4 arg5 harg5 arg6 harg6 arg7 harg7 arg8 harg8 x0 x1 hw j]
  unfold k1_pay4
  pointwise
theorem down_r_2 (j : Fin 1024) : down (nmsRun.sl.r_2 c i arg1 harg1 arg2 harg2 arg3 harg3 arg4 harg4 arg5 harg5 arg6 harg6 arg7 harg7 arg8 harg8 x0 x1 hw) j = rowsOf x0 x1 (ix2 j 1) - rowsOf x0 x1 (ix2 j 4) * half := by
  show k1_pay5 (gathered c i arg1 harg1 arg2 harg2 arg3 harg3 arg4 harg4 arg5 harg5 arg6 harg6 arg7 harg7 arg8 harg8 x0 x1 hw (Rect.unit (s := S1024x8) ![0, 1] S1024x1.size inb_S1024x8_S1024x1_0_1).toLoadRect) (gathered c i arg1 harg1 arg2 harg2 arg3 harg3 arg4 harg4 arg5 harg5 arg6 harg6 arg7 harg7 arg8 harg8 x0 x1 hw (Rect.unit (s := S1024x8) ![0, 4] S1024x1.size inb_S1024x8_S1024x1_0_4).toLoadRect) (ix2 j 0) = _
  rw [← col_1 c i arg1 harg1 arg2 harg2 arg3 harg3 arg4 harg4 arg5 harg5 arg6 harg6 arg7 harg7 arg8 harg8 x0 x1 hw j, ← col_4 c i arg1 harg1 arg2 harg2 arg3 harg3 arg4 harg4 arg5 harg5 arg6 harg6 arg7 harg7 arg8 harg8 x0 x1 hw j]
  unfold k1_pay5
  pointwise
theorem down_r_3 (j : Fin 1024) : down (nmsRun.sl.r_3 c i arg1 harg1 arg2 harg2 arg3 harg3 arg4 harg4 arg5 harg5 arg6 harg6 arg7 harg7 arg8 harg8 x0 x1 hw) j = rowsOf x0 x1 (ix2 j 1) + rowsOf x0 x1 (ix2 j 4) * half := by
  show k1_pay6 (gathered c i arg1 harg1 arg2 harg2 arg3 harg3 arg4 harg4 arg5 harg5 arg6 harg6 arg7 harg7 arg8 harg8 x0 x1 hw (Rect.unit (s := S1024x8) ![0, 1] S1024x1.size inb_S1024x8_S1024x1_0_1).toLoadRect) (gathered c i arg1 harg1 arg2 harg2 arg3 harg3 arg4 harg4 arg5 harg5 arg6 harg6 arg7 harg7 arg8 harg8 x0 x1 hw (Rect.unit (s := S1024x8) ![0, 4] S1024x1.size inb_S1024x8_S1024x1_0_4).toLoadRect) (ix2 j 0) = _
  rw [← col_1 c i arg1 harg1 arg2 harg2 arg3 harg3 arg4 harg4 arg5 harg5 arg6 harg6 arg7 harg7 arg8 harg8 x0 x1 hw j, ← col_4 c i arg1 harg1 arg2 harg2 arg3 harg3 arg4 harg4 arg5 harg5 arg6 harg6 arg7 harg7 arg8 harg8 x0 x1 hw j]
  unfold k1_pay6
  pointwise
theorem down_r_4 (j : Fin 1024) : down (nmsRun.sl.r_4 c i arg1 harg1 arg2 harg2 arg3 harg3 arg4 harg4 arg5 harg5 arg6 harg6 arg7 harg7 arg8 harg8 x0 x1 hw) j = rowsOf x0 x1 (ix2 j 3) * rowsOf x0 x1 (ix2 j 4) := by
  show k1_pay7 (gathered c i arg1 harg1 arg2 harg2 arg3 harg3 arg4 harg4 arg5 harg5 arg6 harg6 arg7 harg7 arg8 harg8 x0 x1 hw (Rect.unit (s := S1024x8) ![0, 3] S1024x1.size inb_S1024x8_S1024x1_0_3).toLoadRect) (gathered c i arg1 harg1 arg2 harg2 arg3 harg3 arg4 harg4 arg5 harg5 arg6 harg6 arg7 harg7 arg8 harg8 x0 x1 hw (Rect.unit (s := S1024x8) ![0, 4] S1024x1.size inb_S1024x8_S1024x1_0_4).toLoadRect) (ix2 j 0) = _
  rw [← col_3 c i arg1 harg1 arg2 harg2 arg3 harg3 arg4 harg4 arg5 harg5 arg6 harg6 arg7 harg7 arg8 harg8 x0 x1 hw j, ← col_4 c i arg1 harg1 arg2 harg2 arg3 harg3 arg4 harg4 arg5 harg5 arg6 harg6 arg7 harg7 arg8 harg8 x0 x1 hw j]
  unfold k1_pay7
  pointwise

/-- The gathered rows without their last column. -/
def boxRows (j : Fin 1024) (k : Fin 7) : EReal := rowsOf x0 x1 (ix2 j ⟨k, by omega⟩)

theorem bars_eq : bars (down (nmsRun.sl.r c i arg1 harg1 arg2 harg2 arg3 harg3 arg4 harg4 arg5 harg5 arg6 harg6 arg7 harg7 arg8 harg8 x0 x1 hw)) (down (nmsRun.sl.r_1 c i arg1 harg1 arg2 harg2 arg3 harg3 arg4 harg4 arg5 harg5 arg6 harg6 arg7 harg7 arg8 harg8 x0 x1 hw)) (down (nmsRun.sl.r_2 c i arg1 harg1 arg2 harg2 arg3 harg3 arg4 harg4 arg5 harg5 arg6 harg6 arg7 harg7 arg8 harg8 x0 x1 hw)) (down (nmsRun.sl.r_3 c i arg1 harg1 arg2 harg2 arg3 harg3 arg4 harg4 arg5 harg5 arg6 harg6 arg7 harg7 arg8 harg8 x0 x1 hw)) (down (nmsRun.sl.r_4 c i arg1 harg1 arg2 harg2 arg3 harg3 arg4 harg4 arg5 harg5 arg6 harg6 arg7 harg7 arg8 harg8 x0 x1 hw))
    = barsOf (boxRows x0 x1) := by
  unfold barsOf
  rw [funext (down_r c i arg1 harg1 arg2 harg2 arg3 harg3 arg4 harg4 arg5 harg5 arg6 harg6 arg7 harg7 arg8 harg8 x0 x1 hw), funext (down_r_1 c i arg1 harg1 arg2 harg2 arg3 harg3 arg4 harg4 arg5 harg5 arg6 harg6 arg7 harg7 arg8 harg8 x0 x1 hw), funext (down_r_2 c i arg1 harg1 arg2 harg2 arg3 harg3 arg4 harg4 arg5 harg5 arg6 harg6 arg7 harg7 arg8 harg8 x0 x1 hw), funext (down_r_3 c i arg1 harg1 arg2 harg2 arg3 harg3 arg4 harg4 arg5 harg5 arg6 harg6 arg7 harg7 arg8 harg8 x0 x1 hw), funext (down_r_4 c i arg1 harg1 arg2 harg2 arg3 harg3 arg4 harg4 arg5 harg5 arg6 harg6 arg7 harg7 arg8 harg8 x0 x1 hw)]
  rfl

theorem half_eq : half = ((1 / 2 : ℝ) : EReal) := by
  simp [Ideal.ofBits, Ideal.ieee]; norm_num
  rw [← EReal.coe_mul]; norm_num

/-- The scores left after the greedy loop. -/
theorem sel_at (x2 : Vec Ideal S1x1x1024 .f32) (j : Fin 1024) : along (nmsRun.sl.r_40 c i arg1 harg1 arg2 harg2 arg3 harg3 arg4 harg4 arg5 harg5 arg6 harg6 arg7 harg7 arg8 harg8 x0 x1 x2 hw) j = sel (boxRows x0 x1) (fun j => x2 (ix3 0 0 j)) j := by
  unfold nmsRun.sl.r_40
  rw [link_pairs, kept_at c i arg1 harg1 arg2 harg2 arg3 harg3 arg4 harg4 arg5 harg5 arg6 harg6 arg7 harg7 arg8 harg8 _ _ _ _ _ _ _ _ le_rfl, bars_eq]
  show k1_pay67 (F := Ideal) _ _ (ix2 0 j) = _
  unfold k1_pay67
  pointwise
  rw [View.readAt_apply, harg3.read_unread, and_ofBool, select_ofBool]
  have hx : x2 ((Rect.unit (s := S1x1x1024) ![0, 0, 0] S1x1x1024.size inb_S1x1x1024_S1x1x1024_0_0_0).toLoadRect.idx (ix3 0 0 j)) = x2 (ix3 0 0 j) := by
    refine congrArg x2 (funext fun a => Fin.ext ?_)
    fin_cases a
    · rfl
    · rfl
    · show 0 + 1 * j.val = j.val
      omega
  rw [hx]
  unfold sel selOf
  refine if_congr (and_congr_left fun _ => ?_) rfl rfl
  show half < (if keepAt (barsOf (boxRows x0 x1)) 1024 j = true then (1 : EReal) else 0) ↔ _
  rw [half_eq]
  split
  · refine iff_of_true ?_ ‹_›
    rw [← EReal.coe_one, EReal.coe_lt_coe_iff]; norm_num
  · refine iff_of_false ?_ ‹_›
    rw [← EReal.coe_zero, EReal.coe_lt_coe_iff]; norm_num
end
end
end Cert.KernelIdeal.Pf
end
-- ==== Proof.KernelIdealOut.lean ====
/- The second kernel's outputs over the extended reals, block by block. -/
module

public import proofs.«01_k».proof.Proof.KernelIdealMain
public import proofs.«01_k».proof.Proof.KernelIdealLoop
public import Idealize.ShloMosaic.Lib.Pipeline.CanonAppend
public import Idealize.ShloMosaic.Lib.Pipeline.ValueKit

@[expose] public section

set_option maxRecDepth 16384

noncomputable section

namespace Cert.KernelIdeal.Pf
open Idealize.ShloMosaic.Pointwise
open Cert.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

set_option backward.isDefEq.respectTransparency.types false

section
variable (W : Dev nD → Valuation τ sig (Elt Ideal)) (hH : RowsOk W) (c : Dev nD) (t : Fin cfg1.N)

/-- The rows of coordinates and the scores of the image at point `t`. -/
abbrev gOf : Fin 1024 → Fin 7 → EReal := boxRows (iblk1 W c 0 t) (iblk1 W c 1 t)
abbrev tOf (j : Fin 1024) : EReal := (show Vec Ideal S1x1x1024 .f32 from iblk1 W c 2 t) (ix3 0 0 j)
/-- The box at place `r` of the result. -/
abbrev boxAt (r : Fin 256) : Fin 1024 := at_ (gOf W c t) (tOf W c t) ⟨r, by omega⟩
/-- Its score. -/
abbrev selAt (r : Fin 256) : EReal := sel (gOf W c t) (tOf W c t) (boxAt W c t r)

theorem sel_fun : along (nmsRun.sl.r_40 c (grid1.coords t) (mr0 t) (wh0 t) (mr1 t) (wh1 t) (mr2 t) (wh2 t) (mr3 t) (wh3 t) (mr4 t) (wh4 t) (mr5 t) (wh5 t) scA (Memref.isWhole_whole _) scB (Memref.isWhole_whole _) (iblk1 W c 0 t) (iblk1 W c 1 t) (iblk1 W c 2 t) (hH c t)) = sel (gOf W c t) (tOf W c t) :=
  funext fun j => sel_at c (grid1.coords t) (mr0 t) (wh0 t) (mr1 t) (wh1 t) (mr2 t) (wh2 t) (mr3 t) (wh3 t) (mr4 t) (wh4 t) (mr5 t) (wh5 t) scA (Memref.isWhole_whole _) scB (Memref.isWhole_whole _) (iblk1 W c 0 t) (iblk1 W c 1 t) (hH c t) (iblk1 W c 2 t) j

/-- Output 3's block at a place. -/
def left3G (y : S1x256x7.Idx) : EReal := boxRows (iblk1 W c 0 t) (iblk1 W c 1 t) (boxAt W c t (y 1)) (y 2)

theorem left3_at (y : S1x256x7.Idx) : left3 W hH c t y = left3G W c t y := by
  unfold left3
  rw [View.read_writes_junk_eq_canon]
  unfold runAt
  rw [link_boxes]
  rw [← List.append_nil (_ :: _ :: [])]
  refine View.canon_append_of_pieces (Val := Elt Ideal) (e := .f32) (left3G W c t) [] _ ?_ y ?_
  · intro p hp
    simp only [List.mem_cons, List.not_mem_nil, or_false] at hp
    rcases hp with rfl | rfl
    · intro x
      obtain ⟨z, a, k, rfl⟩ : ∃ (z : Fin 1) (a : Fin 128) (k : Fin 7), x = ix3 z a k := ⟨x 0, x 1, x 2, by idx_vars x⟩
      obtain rfl : z = 0 := Subsingleton.elim _ _
      refine (outBoxes_128 _ _ a k ⟨128 + a, by omega⟩ rfl).trans ?_
      rw [sel_fun]
      have he : ((Rect.unit (s := S1x256x7) ![0, 128, 0] S1x128x7.size inb_S1x256x7_S1x128x7_0_128_0).emb (ix3 0 a k) 1 : Fin 256) = (⟨128 + a.val, by omega⟩ : Fin 256) :=
        Fin.ext (show 128 + 1 * a.val = 128 + a.val by omega)
      have hk : ((Rect.unit (s := S1x256x7) ![0, 128, 0] S1x128x7.size inb_S1x256x7_S1x128x7_0_128_0).emb (ix3 0 a k) 2 : Fin 7) = k :=
        Fin.ext (show 0 + 1 * k.val = k.val by omega)
      unfold left3G
      rw [he, hk, all_rows]
      rfl
    · intro x
      obtain ⟨z, a, k, rfl⟩ : ∃ (z : Fin 1) (a : Fin 128) (k : Fin 7), x = ix3 z a k := ⟨x 0, x 1, x 2, by idx_vars x⟩
      obtain rfl : z = 0 := Subsingleton.elim _ _
      refine (outBoxes_0 _ _ a k ⟨0 + a, by omega⟩ rfl).trans ?_
      rw [sel_fun]
      have he : ((Rect.unit (s := S1x256x7) ![0, 0, 0] S1x128x7.size inb_S1x256x7_S1x128x7_0_0_0).emb (ix3 0 a k) 1 : Fin 256) = (⟨0 + a.val, by omega⟩ : Fin 256) :=
        Fin.ext (show 0 + 1 * a.val = 0 + a.val by omega)
      have hk : ((Rect.unit (s := S1x256x7) ![0, 0, 0] S1x128x7.size inb_S1x256x7_S1x128x7_0_0_0).emb (ix3 0 a k) 2 : Fin 7) = k :=
        Fin.ext (show 0 + 1 * k.val = k.val by omega)
      unfold left3G
      rw [he, hk, all_rows]
      rfl
  · exact View.cover_of_tiled_head (Val := Elt Ideal) (e := .f32) _ _ _ rfl y

/-- Output 4's block at a place. -/
def left4G (y : S1x256x1.Idx) : EReal := if 0 < selAt W c t (y 1) then selAt W c t (y 1) else 0

theorem left4_at (y : S1x256x1.Idx) : left4 W hH c t y = left4G W c t y := by
  unfold left4
  rw [View.read_writes_junk_eq_canon]
  unfold runAt
  rw [link_scores]
  rw [← List.append_nil (_ :: _ :: [])]
  refine View.canon_append_of_pieces (Val := Elt Ideal) (e := .f32) (left4G W c t) [] _ ?_ y ?_
  · intro p hp
    simp only [List.mem_cons, List.not_mem_nil, or_false] at hp
    rcases hp with rfl | rfl
    · intro x
      obtain ⟨z, a, k, rfl⟩ : ∃ (z : Fin 1) (a : Fin 128) (k : Fin 1), x = ix3 z a k := ⟨x 0, x 1, x 2, by idx_vars x⟩
      obtain rfl : z = 0 := Subsingleton.elim _ _
      obtain rfl : k = 0 := Subsingleton.elim _ _
      refine (outScores_128 _ a ⟨128 + a, by omega⟩ rfl).trans ?_
      rw [sel_fun]
      have he : ((Rect.unit (s := S1x256x1) ![0, 128, 0] S1x128x1.size inb_S1x256x1_S1x128x1_0_128_0).emb (ix3 0 a 0) 1 : Fin 256) = (⟨128 + a.val, by omega⟩ : Fin 256) :=
        Fin.ext (show 128 + 1 * a.val = 128 + a.val by omega)
      unfold left4G
      rw [he]
      rfl
    · intro x
      obtain ⟨z, a, k, rfl⟩ : ∃ (z : Fin 1) (a : Fin 128) (k : Fin 1), x = ix3 z a k := ⟨x 0, x 1, x 2, by idx_vars x⟩
      obtain rfl : z = 0 := Subsingleton.elim _ _
      obtain rfl : k = 0 := Subsingleton.elim _ _
      refine (outScores_0 _ a ⟨0 + a, by omega⟩ rfl).trans ?_
      rw [sel_fun]
      have he : ((Rect.unit (s := S1x256x1) ![0, 0, 0] S1x128x1.size inb_S1x256x1_S1x128x1_0_0_0).emb (ix3 0 a 0) 1 : Fin 256) = (⟨0 + a.val, by omega⟩ : Fin 256) :=
        Fin.ext (show 0 + 1 * a.val = 0 + a.val by omega)
      unfold left4G
      rw [he]
      rfl
  · exact View.cover_of_tiled_head (Val := Elt Ideal) (e := .f32) _ _ _ rfl y

/-- Output 5's block at a place. -/
def left5G (y : S1x256x1.Idx) : BitVec 32 := FloatOps.fptosi 32 (if 0 < selAt W c t (y 1) then rowsOf (iblk1 W c 0 t) (iblk1 W c 1 t) (ix2 (boxAt W c t (y 1)) 7) else (0 : Ideal .f32))

theorem left5_at (y : S1x256x1.Idx) : left5 W hH c t y = left5G W c t y := by
  unfold left5
  rw [View.read_writes_junk_eq_canon]
  unfold runAt
  rw [link_labels]
  rw [← List.append_nil (_ :: _ :: [])]
  refine View.canon_append_of_pieces (Val := Elt Ideal) (e := .i32) (left5G W c t) [] _ ?_ y ?_
  · intro p hp
    simp only [List.mem_cons, List.not_mem_nil, or_false] at hp
    rcases hp with rfl | rfl
    · intro x
      obtain ⟨z, a, k, rfl⟩ : ∃ (z : Fin 1) (a : Fin 128) (k : Fin 1), x = ix3 z a k := ⟨x 0, x 1, x 2, by idx_vars x⟩
      obtain rfl : z = 0 := Subsingleton.elim _ _
      obtain rfl : k = 0 := Subsingleton.elim _ _
      refine (outLabels_128 _ _ a ⟨128 + a, by omega⟩ rfl).trans ?_
      rw [sel_fun]
      have he : ((Rect.unit (s := S1x256x1) ![0, 128, 0] S1x128x1.size inb_S1x256x1_S1x128x1_0_128_0).emb (ix3 0 a 0) 1 : Fin 256) = (⟨128 + a.val, by omega⟩ : Fin 256) :=
        Fin.ext (show 128 + 1 * a.val = 128 + a.val by omega)
      unfold left5G
      rw [he, all_rows]
      rfl
    · intro x
      obtain ⟨z, a, k, rfl⟩ : ∃ (z : Fin 1) (a : Fin 128) (k : Fin 1), x = ix3 z a k := ⟨x 0, x 1, x 2, by idx_vars x⟩
      obtain rfl : z = 0 := Subsingleton.elim _ _
      obtain rfl : k = 0 := Subsingleton.elim _ _
      refine (outLabels_0 _ _ a ⟨0 + a, by omega⟩ rfl).trans ?_
      rw [sel_fun]
      have he : ((Rect.unit (s := S1x256x1) ![0, 0, 0] S1x128x1.size inb_S1x256x1_S1x128x1_0_0_0).emb (ix3 0 a 0) 1 : Fin 256) = (⟨0 + a.val, by omega⟩ : Fin 256) :=
        Fin.ext (show 0 + 1 * a.val = 0 + a.val by omega)
      unfold left5G
      rw [he, all_rows]
      rfl
  · exact View.cover_of_tiled_head (Val := Elt Ideal) (e := .i32) _ _ _ rfl y

end

section
variable (W : Dev nD → Valuation τ sig (Elt Ideal)) (hH : RowsOk W) (c : Dev nD)

/-- The table, the row numbers and the scores the region finds. -/
abbrev tabA : Vec Ideal S4x20000x8 .f32 := W c (Proc.devRef .tc main_call0_v5)
abbrev idxA : Vec Ideal S4x1x1024 .i32 := W c (Proc.devRef .tc main_call0_v6)
abbrev tsA : Vec Ideal S4x1x1024 .f32 := W c (Proc.devRef .tc main_call0_v7)

/-- The rows the region gathers for image `b`. -/
def rowsI (b : Fin 4) (j : Fin 1024) (k : Fin 8) : EReal :=
  tabA W c (ix3 b ⟨(idxA W c (ix3 b 0 j)).toNat % 20000, Nat.mod_lt _ (by decide)⟩ k)
/-- Their coordinates; the scores; the box at a place of the result and its score. -/
def gI (b : Fin 4) (j : Fin 1024) (k : Fin 7) : EReal := rowsI W c b j ⟨k, by omega⟩
@[inherit_doc gI]
def tI (b : Fin 4) (j : Fin 1024) : EReal := tsA W c (ix3 b 0 j)
@[inherit_doc gI]
def boxI (b : Fin 4) (r : Fin 256) : Fin 1024 := at_ (gI W c b) (tI W c b) ⟨r, by omega⟩
@[inherit_doc gI]
def selI (b : Fin 4) (r : Fin 256) : EReal := sel (gI W c b) (tI W c b) (boxI W c b r)

/-- The three arrays the region leaves. -/
def boxesI (y : S4x256x7.Idx) : EReal := gI W c (y 0) (boxI W c (y 0) (y 1)) (y 2)
@[inherit_doc boxesI]
def scoresI (y : S4x256x1.Idx) : EReal := if 0 < selI W c (y 0) (y 1) then selI W c (y 0) (y 1) else 0
@[inherit_doc boxesI]
def labelsI (y : S4x256x1.Idx) : BitVec 32 :=
  FloatOps.fptosi 32 (if 0 < selI W c (y 0) (y 1) then rowsI W c (y 0) (boxI W c (y 0) (y 1)) 7 else (0 : Ideal .f32))

theorem blk_tab (t : Fin cfg1.N) (r : Fin 20000) (k : Fin 8) : iblk1 W c 0 t (ix3 0 r k) = tabA W c (ix3 (t : Fin 4) r k) := by
  unfold iblk1
  refine congrArg (W c (Proc.devRef .tc main_call0_v5)) (funext fun a => Fin.ext ?_)
  have h : ∀ t : Fin cfg1.N, (cfg1.win 0).index t = ![t.val, 0, 0] := by decide
  have h' := h t
  fin_cases a <;> blk_simp [h'] <;> rfl
theorem blk_idx (t : Fin cfg1.N) (j : Fin 1024) : iblk1 W c 1 t (ix3 0 0 j) = idxA W c (ix3 (t : Fin 4) 0 j) := by
  unfold iblk1
  refine congrArg (W c (Proc.devRef .tc main_call0_v6)) (funext fun a => Fin.ext ?_)
  have h : ∀ t : Fin cfg1.N, (cfg1.win 1).index t = ![t.val, 0, 0] := by decide
  have h' := h t
  fin_cases a <;> blk_simp [h'] <;> rfl
theorem blk_ts (t : Fin cfg1.N) (j : Fin 1024) : iblk1 W c 2 t (ix3 0 0 j) = tsA W c (ix3 (t : Fin 4) 0 j) := by
  unfold iblk1
  refine congrArg (W c (Proc.devRef .tc main_call0_v7)) (funext fun a => Fin.ext ?_)
  have h : ∀ t : Fin cfg1.N, (cfg1.win 2).index t = ![t.val, 0, 0] := by decide
  have h' := h t
  fin_cases a <;> blk_simp [h'] <;> rfl

theorem rows_eq (t : Fin cfg1.N) (j : Fin 1024) (k : Fin 8) : rowsOf (iblk1 W c 0 t) (iblk1 W c 1 t) (ix2 j k) = rowsI W c (t : Fin 4) j k := by
  unfold rowsOf rowsI
  refine (blk_tab W c t _ _).trans ?_
  refine congrArg (fun r : Fin 20000 => tabA W c (ix3 (t : Fin 4) r k)) (Fin.ext ?_)
  exact congrArg (fun w : BitVec 32 => w.toNat % 20000) (blk_idx W c t j)
theorem g_eq (t : Fin cfg1.N) : gOf W c t = gI W c (t : Fin 4) := funext fun j => funext fun k => rows_eq W c t j _
theorem t_eq (t : Fin cfg1.N) : tOf W c t = tI W c (t : Fin 4) := funext fun j => blk_ts W c t j
theorem box_eq (t : Fin cfg1.N) (r : Fin 256) : boxAt W c t r = boxI W c (t : Fin 4) r := by
  unfold boxAt boxI
  rw [g_eq, t_eq]
theorem selAt_eq (t : Fin cfg1.N) (r : Fin 256) : selAt W c t r = selI W c (t : Fin 4) r := by
  unfold selAt selI
  rw [g_eq, t_eq, box_eq]

theorem final3 : (dat1 W hH c).arrAt 3 cfg1.N = boxesI W c := by
  refine (dat1 W hH c).arrAt_eq_of_covers 3 _ (by decide +kernel) fun t _ y => ?_
  have he : ((cfg1.win 3).blk t).view.emb y = (ix3 (t : Fin 4) ((y 1 : Fin 256)) ((y 2 : Fin 7)) : S4x256x7.Idx) := by
    refine funext fun a => Fin.ext ?_
    have h : ∀ t : Fin cfg1.N, (cfg1.win 3).index t = ![t.val, 0, 0] := by decide
    have h' := h t
    have hy : (y 0).val < 1 := (y 0).isLt
    fin_cases a <;> blk_simp [h'] <;> rfl
  rw [he]
  blk_simp
  rw [dat1_after3]
  refine (left3_at W hH c t _).trans ?_
  unfold left3G boxesI
  rw [box_eq]
  exact rows_eq W c t _ _
theorem final4 : (dat1 W hH c).arrAt 4 cfg1.N = scoresI W c := by
  refine (dat1 W hH c).arrAt_eq_of_covers 4 _ (by decide +kernel) fun t _ y => ?_
  have he : ((cfg1.win 4).blk t).view.emb y = (ix3 (t : Fin 4) ((y 1 : Fin 256)) ((y 2 : Fin 1)) : S4x256x1.Idx) := by
    refine funext fun a => Fin.ext ?_
    have h : ∀ t : Fin cfg1.N, (cfg1.win 4).index t = ![t.val, 0, 0] := by decide
    have h' := h t
    have hy : (y 0).val < 1 := (y 0).isLt
    fin_cases a <;> blk_simp [h'] <;> rfl
  rw [he]
  blk_simp
  rw [dat1_after4]
  refine (left4_at W hH c t _).trans ?_
  unfold left4G scoresI
  rw [selAt_eq]
  rfl
theorem final5 : (dat1 W hH c).arrAt 5 cfg1.N = labelsI W c := by
  refine (dat1 W hH c).arrAt_eq_of_covers 5 _ (by decide +kernel) fun t _ y => ?_
  have he : ((cfg1.win 5).blk t).view.emb y = (ix3 (t : Fin 4) ((y 1 : Fin 256)) ((y 2 : Fin 1)) : S4x256x1.Idx) := by
    refine funext fun a => Fin.ext ?_
    have h : ∀ t : Fin cfg1.N, (cfg1.win 5).index t = ![t.val, 0, 0] := by decide
    have h' := h t
    have hy : (y 0).val < 1 := (y 0).isLt
    fin_cases a <;> blk_simp [h'] <;> rfl
  rw [he]
  blk_simp
  rw [dat1_after5]
  refine (left5_at W hH c t _).trans ?_
  unfold left5G labelsI
  rw [selAt_eq, rows_eq, box_eq]
  rfl
end
end Cert.KernelIdeal.Pf
end
-- ==== Proof.KernelIdealTop.lean ====
/- The first kernel's outputs over the extended reals, and what the second kernel finds. -/
module

public import proofs.«01_k».proof.Proof.KernelIdealOut
public import Idealize.ShloMosaic.Lib.Pipeline.CanonAppend
public import Idealize.ShloMosaic.Lib.Pipeline.ValueKit.Tiles

@[expose] public section

set_option maxRecDepth 16384

noncomputable section

namespace Cert.KernelIdeal.Pf
open Idealize.ShloMosaic.Pointwise
open Cert.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

set_option backward.isDefEq.respectTransparency.types false

/-- The score of three class numbers, set low where it is not above the threshold. -/
def maskOf (a0 a1 a2 : EReal) : EReal := if thresh < max (max a0 a1) a2 then max (max a0 a1) a2 else dropped
/-- The number of the class with the greatest score, the first of equals, from one. -/
def labelOf (a0 a1 a2 : EReal) : EReal := if a1 ≤ a0 then (if a2 ≤ a0 then ((1 : ℝ) : EReal) else ((3 : ℝ) : EReal)) else (if a2 ≤ a1 then ((2 : ℝ) : EReal) else ((3 : ℝ) : EReal))

theorem two_eq : Ideal.ofBits .f32 1073741824#32 = ((2 : ℝ) : EReal) := by
  simp [Ideal.ofBits, Ideal.ieee]
  rw [← EReal.coe_mul]; norm_num
theorem three_eq : Ideal.ofBits .f32 1077936128#32 = ((3 : ℝ) : EReal) := by
  simp [Ideal.ofBits, Ideal.ieee]
  rw [← EReal.coe_mul]; norm_num

theorem row_0 (x : Vec Ideal S1x3x20000 .f32) (n : Fin 20000) : k0_pay2 (F := Ideal) x (ix2 0 n) = x (ix3 0 0 n) := by
  unfold k0_pay2 k0_pay1; pointwise
theorem row_1 (x : Vec Ideal S1x3x20000 .f32) (n : Fin 20000) : k0_pay3 (F := Ideal) x (ix2 0 n) = x (ix3 0 1 n) := by
  unfold k0_pay3 k0_pay1; pointwise
theorem row_2 (x : Vec Ideal S1x3x20000 .f32) (n : Fin 20000) : k0_pay4 (F := Ideal) x (ix2 0 n) = x (ix3 0 2 n) := by
  unfold k0_pay4 k0_pay1; pointwise

theorem score_at (x : Vec Ideal S1x3x20000 .f32) (n : Fin 20000) : scoreOut x (ix3 0 0 n) = maskOf (x (ix3 0 0 n)) (x (ix3 0 1 n)) (x (ix3 0 2 n)) := by
  unfold scoreOut
  rw [View.canon_cons_unit_lit _ _ _ (by decide), View.ld_unit_lit _ _ (by decide)]
  unfold k0_pay5
  pointwise
  rw [row_0, row_1, row_2]
  rfl
theorem label_at (x : Vec Ideal S1x3x20000 .f32) (n : Fin 20000) : labelOut x (ix3 0 0 n) = labelOf (x (ix3 0 0 n)) (x (ix3 0 1 n)) (x (ix3 0 2 n)) := by
  unfold labelOut
  rw [View.canon_cons_unit_lit _ _ _ (by decide), View.ld_unit_lit _ _ (by decide)]
  unfold k0_pay6
  pointwise
  rw [row_0, row_1, row_2, two_eq, three_eq]
  rfl

section
variable (W : Dev nD → Valuation τ sig (Elt Ideal)) (c : Dev nD)
abbrev clsA : Vec Ideal S4x3x20000 .f32 := W c (Proc.devRef .tc main_call0_v0)
theorem blk_cls (t : Fin cfg0.N) (k : Fin 3) (n : Fin 20000) : iblk0 W c 0 t (ix3 0 k n) = clsA W c (ix3 (t : Fin 4) k n) := by
  unfold iblk0
  refine congrArg (W c (Proc.devRef .tc main_call0_v0)) (funext fun a => Fin.ext ?_)
  have h : ∀ t : Fin cfg0.N, (cfg0.win 0).index t = ![t.val, 0, 0] := by decide
  have h' := h t
  fin_cases a <;> blk_simp [h'] <;> rfl
/-- The two arrays the score region leaves. -/
def scoreA (y : S4x1x20000.Idx) : EReal := maskOf (clsA W c (ix3 (y 0) 0 (y 2))) (clsA W c (ix3 (y 0) 1 (y 2))) (clsA W c (ix3 (y 0) 2 (y 2)))
@[inherit_doc scoreA]
def labelA (y : S4x1x20000.Idx) : EReal := labelOf (clsA W c (ix3 (y 0) 0 (y 2))) (clsA W c (ix3 (y 0) 1 (y 2))) (clsA W c (ix3 (y 0) 2 (y 2)))
theorem final0_1 : (dat0 W c).arrAt 1 cfg0.N = scoreA W c := by
  refine (dat0 W c).arrAt_eq_of_covers 1 _ (by decide +kernel) fun t _ y => ?_
  have he : ((cfg0.win 1).blk t).view.emb y = (ix3 (t : Fin 4) 0 ((y 2 : Fin 20000)) : S4x1x20000.Idx) := by
    refine funext fun a => Fin.ext ?_
    have h : ∀ t : Fin cfg0.N, (cfg0.win 1).index t = ![t.val, 0, 0] := by decide
    have h' := h t
    have hy : (y 0).val < 1 := (y 0).isLt
    fin_cases a <;> blk_simp [h'] <;> rfl
  rw [he]
  blk_simp
  rw [dat0_after1]
  have hy : y = (ix3 0 0 (y 2 : Fin 20000) : S1x1x20000.Idx) := by
    obtain ⟨z, z', k, rfl⟩ : ∃ (z : Fin 1) (z' : Fin 1) (k : Fin 20000), y = (ix3 z z' k : S1x1x20000.Idx) := ⟨y 0, y 1, y 2, by idx_vars y⟩
    obtain rfl : z = 0 := Subsingleton.elim _ _
    obtain rfl : z' = 0 := Subsingleton.elim _ _
    rfl
  refine Eq.trans (congrArg (scoreOut (iblk0 W c 0 t)) hy) ?_
  rw [score_at, blk_cls, blk_cls, blk_cls]
  rfl
theorem final0_2 : (dat0 W c).arrAt 2 cfg0.N = labelA W c := by
  refine (dat0 W c).arrAt_eq_of_covers 2 _ (by decide +kernel) fun t _ y => ?_
  have he : ((cfg0.win 2).blk t).view.emb y = (ix3 (t : Fin 4) 0 ((y 2 : Fin 20000)) : S4x1x20000.Idx) := by
    refine funext fun a => Fin.ext ?_
    have h : ∀ t : Fin cfg0.N, (cfg0.win 2).index t = ![t.val, 0, 0] := by decide
    have h' := h t
    have hy : (y 0).val < 1 := (y 0).isLt
    fin_cases a <;> blk_simp [h'] <;> rfl
  rw [he]
  blk_simp
  rw [dat0_after2]
  have hy : y = (ix3 0 0 (y 2 : Fin 20000) : S1x1x20000.Idx) := by
    obtain ⟨z, z', k, rfl⟩ : ∃ (z : Fin 1) (z' : Fin 1) (k : Fin 20000), y = (ix3 z z' k : S1x1x20000.Idx) := ⟨y 0, y 1, y 2, by idx_vars y⟩
    obtain rfl : z = 0 := Subsingleton.elim _ _
    obtain rfl : z' = 0 := Subsingleton.elim _ _
    rfl
  refine Eq.trans (congrArg (labelOut (iblk0 W c 0 t)) hy) ?_
  rw [label_at, blk_cls, blk_cls, blk_cls]
  rfl
end

section
variable (m : (ℓ : Loc nD τ sig) → Buf (Elt Ideal) ℓ) (c : Dev nD)

/-- The class numbers as launched. -/
abbrev clsM : Vec Ideal S4x20000x3 .f32 := m ((c : Thread nD τ).loc main_arg0)
/-- The boxes as launched. -/
abbrev boxM : Vec Ideal S4x20000x7 .f32 := m ((c : Thread nD τ).loc main_arg1)

theorem turned (b : Fin 4) (k : Fin 3) (n : Fin 20000) : clsA (V1 m) c (ix3 b k n) = clsM m c (ix3 b n k) := by
  unfold clsA
  have h : V1 m c (Proc.devRef .tc main_call0_v0) = transpose S4x3x20000 [0, 2, 1] (clsM m c) transposes_S4x20000x3_S4x3x20000_0_2_1 := by
    unfold V1 hostOps0
    after_results_entrywise [cast_eq]
  rw [h]
  pointwise

theorem outs_score : outsA m 2 main_call0_v1_0 c = scoreA (V1 m) c :=
  (Pipeline.afterRegion_arr (dat0 (V1 m) c) (V1 m c) winFacts0.arr_inj 1).trans (final0_1 (V1 m) c)
theorem outs_label : outsA m 2 main_call0_v1_1 c = labelA (V1 m) c :=
  (Pipeline.afterRegion_arr (dat0 (V1 m) c) (V1 m c) winFacts0.arr_inj 2).trans (final0_2 (V1 m) c)

/-- The masked scores. -/
def masked : Vec Ideal S4x20000 .f32 := fun y => maskOf (clsM m c (ix3 (y 0) (y 1) 0)) (clsM m c (ix3 (y 0) (y 1) 1)) (clsM m c (ix3 (y 0) (y 1) 2))
/-- The labels as numbers. -/
def labelled (b : Fin 4) (n : Fin 20000) : EReal := labelOf (clsM m c (ix3 b n 0)) (clsM m c (ix3 b n 1)) (clsM m c (ix3 b n 2))

theorem flat_at (T : Vec Ideal S4x1x20000 .f32) (b : Fin 4) (n : Fin 20000) : shapeCast S4x20000 T shapeCasts_S4x1x20000_S4x20000 (ix2 b n) = T (ix3 b 0 n) := by
  pointwise
theorem lift_at (T : Vec Ideal S4x1024 .f32) (b : Fin 4) (j : Fin 1024) : shapeCast S4x1x1024 T shapeCasts_S4x1024_S4x1x1024 (ix3 b 0 j) = T (ix2 b j) := by
  pointwise
theorem lift_at' (T : Vec Ideal S4x1024 .i32) (b : Fin 4) (j : Fin 1024) : shapeCast S4x1x1024 T shapeCasts_S4x1024_S4x1x1024 (ix3 b 0 j) = T (ix2 b j) := by
  pointwise

theorem scores_flat : (shapeCast S4x20000 (outsA m 2 main_call0_v1_0 c) shapeCasts_S4x1x20000_S4x20000 : Vec Ideal S4x20000 .f32) = masked m c := by
  rw [outs_score]
  funext y
  idx_vars y
  refine (flat_at _ y0 y1).trans ?_
  unfold scoreA masked
  rw [turned, turned, turned]
  rfl
theorem labels_flat (b : Fin 4) (n : Fin 20000) : (shapeCast S4x20000 (outsA m 2 main_call0_v1_1 c) shapeCasts_S4x1x20000_S4x20000 : Vec Ideal S4x20000 .f32) (ix2 b n) = labelled m c b n := by
  rw [outs_label]
  refine (flat_at _ b n).trans ?_
  unfold labelA labelled
  rw [turned, turned, turned]
  rfl

/-- The two results of the first sort: the scores and the row numbers. -/
abbrev topM := Host.topK S4x1024 1 (FloatOps.cmpfTotal (F := Ideal) (φ := .f32) .gt) (masked m c) sliceFits_S4x20000_S4x1024

theorem found_ts (b : Fin 4) (j : Fin 1024) : tsA (W3 m) c (ix3 b 0 j) = (topM m c).1 (ix2 b j) := by
  unfold tsA
  rw [W3_scores, scores_flat]
  exact lift_at _ b j
theorem found_idx (b : Fin 4) (j : Fin 1024) : idxA (W3 m) c (ix3 b 0 j) = (topM m c).2 (ix2 b j) := by
  unfold idxA
  rw [W3_rows, scores_flat]
  exact lift_at' _ b j
theorem found_box (b : Fin 4) (n : Fin 20000) (k : Fin 7) : tabA (W3 m) c (ix3 b n ⟨k, by omega⟩) = boxM m c (ix3 b n k) := by
  unfold tabA
  rw [W3_table]
  pointwise
theorem found_label (b : Fin 4) (n : Fin 20000) : tabA (W3 m) c (ix3 b n 7) = labelled m c b n := by
  unfold tabA
  rw [W3_table, ← labels_flat m c b n]
  generalize (shapeCast S4x20000 (outsA m 2 main_call0_v1_1 c) shapeCasts_S4x1x20000_S4x20000 : Vec Ideal S4x20000 .f32) = T
  pointwise
end
end Cert.KernelIdeal.Pf
end
-- ==== Proof.NmsTop.lean ====
/- The host's sorted selection along the last axis, read at one place: the value and the position that come at that place of the
   stable sort by the greater value first. -/
module

public import proofs.«01_k».proof.Proof.NmsSpec

@[expose] public section

set_option maxRecDepth 16384

noncomputable section

namespace Cert.Nms

open Idealize.ShloMosaic

/-- Two coordinates as an index with the second axis's coordinate replaced. -/
theorem along_two {B N : ℕ} (b : Fin B) (j k : Fin N) : Shape.Idx.along (s := ⟨2, ![B, N]⟩) (ix2 b j) 1 k = ix2 b k := by
  unfold Shape.Idx.along
  funext a
  fin_cases a <;> rfl

variable {B N K : ℕ} (hK : K ≤ N) (x : (⟨2, ![B, N]⟩ : Shape).Idx → Ideal .f32) (h : (⟨2, ![B, N]⟩ : Shape).Slices (fun _ => 0) ⟨2, ![B, K]⟩)
  (b : Fin B) (j : Fin K)

/-- One row of the sorted array. -/
abbrev rowX (b : Fin B) (n : Fin N) : EReal := x (ix2 b n)

theorem start_at {α : Type} (y : (⟨2, ![B, N]⟩ : Shape).Idx → α) :
    extractStridedSlice ⟨2, ![B, K]⟩ (fun _ => 0) y h (ix2 b j) = y (ix2 b (j.castLE hK)) := by
  refine congrArg y (funext fun a => Fin.ext ?_)
  fin_cases a
  · show 0 + b.val = b.val
    omega
  · show 0 + j.val = j.val
    omega

theorem before_eq (b : Fin B) (y : (⟨2, ![B, N]⟩ : Shape).Idx → BitVec 32) (q : Fin N) :
    (fun k k' : Fin N => (fun l r : Ideal .f32 × BitVec 32 => FloatOps.cmpfTotal (F := Ideal) (φ := .f32) .gt l.1 r.1)
        (x (Shape.Idx.along (s := ⟨2, ![B, N]⟩) (ix2 b q) 1 k), y (Shape.Idx.along (s := ⟨2, ![B, N]⟩) (ix2 b q) 1 k))
        (x (Shape.Idx.along (s := ⟨2, ![B, N]⟩) (ix2 b q) 1 k'), y (Shape.Idx.along (s := ⟨2, ![B, N]⟩) (ix2 b q) 1 k')) == 1#1)
      = fun k k' => decide (rowX x b k' < rowX x b k) := by
  funext k k'
  simp only [along_two]
  show (BitVec.ofBool (decide (x (ix2 b k') < x (ix2 b k))) == 1#1) = decide (x (ix2 b k') < x (ix2 b k))
  by_cases h : x (ix2 b k') < x (ix2 b k) <;> simp [h]

section
variable (y : (⟨2, ![B, N]⟩ : Shape).Idx → BitVec 32) (q : Fin N)
abbrev sorted := Host.sort2 ⟨2, ![B, N]⟩ 1 (fun l r : Ideal .f32 × BitVec 32 => FloatOps.cmpfTotal (F := Ideal) (φ := .f32) .gt l.1 r.1) x y
theorem sorted_value : (sorted x y).1 (ix2 b q) = x (ix2 b (placed (rowX x b) q)) := by
  unfold sorted Host.sort2
  rw [dif_pos (show 1 < 2 by decide)]
  exact (congrArg x (along_two b q _)).trans (congrArg (fun f => x (ix2 b (sortedFrom f q))) (before_eq x b y q))
theorem sorted_index : (sorted x y).2 (ix2 b q) = y (ix2 b (placed (rowX x b) q)) := by
  unfold sorted Host.sort2
  rw [dif_pos (show 1 < 2 by decide)]
  exact (congrArg y (along_two b q _)).trans (congrArg (fun f => y (ix2 b (sortedFrom f q))) (before_eq x b y q))
end

theorem top_value : (Host.topK ⟨2, ![B, K]⟩ 1 (FloatOps.cmpfTotal (F := Ideal) (φ := .f32) .gt) x h).1 (ix2 b j) = x (ix2 b (placed (rowX x b) (j.castLE hK))) := by
  show extractStridedSlice ⟨2, ![B, K]⟩ (fun _ => 0) (sorted x (fun i => if hd : 1 < (⟨2, ![B, N]⟩ : Shape).rank then iotaInDim ⟨2, ![B, N]⟩ 32 ⟨1, hd⟩ i else 0#32)).1 h (ix2 b j) = _
  rw [start_at hK h b j, sorted_value]

theorem top_index : (Host.topK ⟨2, ![B, K]⟩ 1 (FloatOps.cmpfTotal (F := Ideal) (φ := .f32) .gt) x h).2 (ix2 b j) = BitVec.ofNat 32 (placed (rowX x b) (j.castLE hK)) := by
  show extractStridedSlice ⟨2, ![B, K]⟩ (fun _ => 0) (sorted x (fun i => if hd : 1 < (⟨2, ![B, N]⟩ : Shape).rank then iotaInDim ⟨2, ![B, N]⟩ 32 ⟨1, hd⟩ i else 0#32)).2 h (ix2 b j) = _
  rw [start_at hK h b j, sorted_index]
  rfl

end Cert.Nms

end
-- ==== Proof.NmsWhole.lean ====
/- The three results, from one problem's scores, labels and boxes: the rows in order of score, which of the first 1024 are kept,
   and the first 256 of those in order of score again. -/
module

public import proofs.«01_k».proof.Proof.NmsTop

@[expose] public section

noncomputable section

namespace Cert.Nms

open Idealize.ShloMosaic

variable (s : Fin 20000 → EReal) (bx : Fin 20000 → Fin 7 → EReal) (l : Fin 20000 → BitVec 32)

/-- The row at place `j` by score. -/
def firstRow (j : Fin 1024) : Fin 20000 := placed s (j.castLE (by decide))
/-- The box at place `j`. -/
def cand (j : Fin 1024) (k : Fin 7) : EReal := bx (firstRow s j) k
/-- The score at place `j`. -/
def candS (j : Fin 1024) : EReal := s (firstRow s j)
/-- The scores after suppression. -/
def selF : Fin 1024 → EReal := sel (cand s bx) (candS s)
/-- The place at output row `r`. -/
def pickF (r : Fin 256) : Fin 1024 := placed (selF s bx) (r.castLE (by decide))
/-- The three results. -/
def outBox (r : Fin 256) (k : Fin 7) : EReal := cand s bx (pickF s bx r) k
@[inherit_doc outBox]
def outScore (r : Fin 256) : EReal := if 0 < selF s bx (pickF s bx r) then selF s bx (pickF s bx r) else 0
@[inherit_doc outBox]
def outLabel (r : Fin 256) : BitVec 32 := if 0 < selF s bx (pickF s bx r) then l (firstRow s (pickF s bx r)) else 0#32

/-- The score of three class numbers, set low where it is not above the threshold. -/
def scoreOf (a0 a1 a2 : EReal) : EReal := if thresh < max (max a0 a1) a2 then max (max a0 a1) a2 else dropped
/-- The number of the class with the greatest score, the first of equals, from one. -/
def classOf (a0 a1 a2 : EReal) : BitVec 32 := if a1 ≤ a0 then (if a2 ≤ a0 then 1#32 else 3#32) else (if a2 ≤ a1 then 2#32 else 3#32)

end Cert.Nms

end
-- ==== Proof.KernelIdealFinal.lean ====
/- What the kernel leaves in its three results, from the arguments as launched. -/
module

public import proofs.«01_k».proof.Proof.KernelIdealTop
public import proofs.«01_k».proof.Proof.NmsWhole
public import Idealize.ShloMosaic.Lib.Pipeline.CanonAppend
public import Idealize.ShloMosaic.Lib.Pipeline.ValueKit.Tiles

@[expose] public section

set_option maxRecDepth 16384

noncomputable section

namespace Cert.KernelIdeal.Pf
open Idealize.ShloMosaic.Pointwise
open Cert.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

set_option backward.isDefEq.respectTransparency.types false

section
variable (m : (ℓ : Loc nD τ sig) → Buf (Elt Ideal) ℓ) (c : Dev nD) (b : Fin 4)

/-- One problem's scores. -/
def sM (n : Fin 20000) : EReal := scoreOf (clsM m c (ix3 b n 0)) (clsM m c (ix3 b n 1)) (clsM m c (ix3 b n 2))
/-- One problem's boxes. -/
def bM (n : Fin 20000) (k : Fin 7) : EReal := boxM m c (ix3 b n k)
/-- One problem's labels. -/
def lM (n : Fin 20000) : BitVec 32 := classOf (clsM m c (ix3 b n 0)) (clsM m c (ix3 b n 1)) (clsM m c (ix3 b n 2))

theorem sM_eq : rowX (masked m c) b = sM m c b := rfl

theorem row_no (j : Fin 1024) : (⟨(idxA (W3 m) c (ix3 b 0 j)).toNat % 20000, Nat.mod_lt _ (by decide)⟩ : Fin 20000) = firstRow (sM m c b) j := by
  refine Fin.ext ?_
  show (idxA (W3 m) c (ix3 b 0 j)).toNat % 20000 = _
  rw [found_idx]
  unfold topM
  rw [show (Host.topK S4x1024 1 (FloatOps.cmpfTotal (F := Ideal) (φ := .f32) .gt) (masked m c) sliceFits_S4x20000_S4x1024).2 (ix2 b j) = BitVec.ofNat 32 (placed (rowX (masked m c) b) (j.castLE (by decide))) from top_index (by decide) (masked m c) _ b j]
  rw [sM_eq]
  unfold firstRow
  rw [BitVec.toNat_ofNat]
  have := (placed (sM m c b) (j.castLE (by decide : 1024 ≤ 20000))).isLt
  omega

theorem gI_eq : gI (W3 m) c b = cand (sM m c b) (bM m c b) := by
  funext j k
  unfold gI rowsI cand bM
  rw [row_no, found_box]
theorem tI_eq : tI (W3 m) c b = candS (sM m c b) := by
  funext j
  unfold tI candS
  rw [found_ts]
  exact top_value (by decide) (masked m c) _ b j
theorem boxI_eq (r : Fin 256) : boxI (W3 m) c b r = pickF (sM m c b) (bM m c b) r := by
  unfold boxI pickF
  rw [gI_eq, tI_eq]
  rfl
theorem selI_eq (r : Fin 256) : selI (W3 m) c b r = selF (sM m c b) (bM m c b) (pickF (sM m c b) (bM m c b) r) := by
  unfold selI
  rw [gI_eq, tI_eq, boxI_eq]
  rfl

theorem back_0 : FloatOps.fptosi (F := Ideal) (φ := .f32) 32 (0 : Ideal .f32) = 0#32 := by
  show Ideal.fptosi 32 ((0 : ℝ) : EReal) = _
  simp only [Ideal.fptosi, Ideal.toIntClamped_coe]; norm_num
theorem back_1 : FloatOps.fptosi (F := Ideal) (φ := .f32) 32 (((1 : ℝ) : EReal) : Ideal .f32) = 1#32 := by
  show Ideal.fptosi 32 ((1 : ℝ) : EReal) = _
  simp only [Ideal.fptosi, Ideal.toIntClamped_coe]; norm_num
theorem back_2 : FloatOps.fptosi (F := Ideal) (φ := .f32) 32 (((2 : ℝ) : EReal) : Ideal .f32) = 2#32 := by
  show Ideal.fptosi 32 ((2 : ℝ) : EReal) = _
  simp only [Ideal.fptosi, Ideal.toIntClamped_coe]; norm_num
theorem back_3 : FloatOps.fptosi (F := Ideal) (φ := .f32) 32 (((3 : ℝ) : EReal) : Ideal .f32) = 3#32 := by
  show Ideal.fptosi 32 ((3 : ℝ) : EReal) = _
  simp only [Ideal.fptosi, Ideal.toIntClamped_coe]; norm_num
theorem back_label (a0 a1 a2 : EReal) : FloatOps.fptosi (F := Ideal) (φ := .f32) 32 (labelOf a0 a1 a2 : Ideal .f32) = classOf a0 a1 a2 := by
  unfold labelOf classOf
  split_ifs
  · exact back_1
  · exact back_3
  · exact back_2
  · exact back_3

theorem whole_box (y : S4x256x7.Idx) : boxesI (W3 m) c y = outBox (sM m c (y 0)) (bM m c (y 0)) (y 1) (y 2) := by
  unfold boxesI outBox
  rw [gI_eq, boxI_eq]
theorem whole_score (y : S4x256x1.Idx) : scoresI (W3 m) c y = outScore (sM m c (y 0)) (bM m c (y 0)) (y 1) := by
  unfold scoresI outScore
  rw [selI_eq]
theorem whole_label (y : S4x256x1.Idx) : labelsI (W3 m) c y = outLabel (sM m c (y 0)) (bM m c (y 0)) (lM m c (y 0)) (y 1) := by
  unfold labelsI outLabel
  rw [selI_eq]
  split_ifs
  · unfold rowsI lM
    rw [row_no, boxI_eq, found_label]
    exact back_label _ _ _
  · exact back_0

theorem outs_box : outsB m 4 main_v0_0 c = boxesI (W3 m) c :=
  (Pipeline.afterRegion_arr (dat1 (W3 m) (rowsOk m) c) (W3 m c) winFacts1.arr_inj 3).trans (final3 (W3 m) (rowsOk m) c)
theorem outs_sc : outsB m 4 main_call0_v8_1 c = scoresI (W3 m) c :=
  (Pipeline.afterRegion_arr (dat1 (W3 m) (rowsOk m) c) (W3 m c) winFacts1.arr_inj 4).trans (final4 (W3 m) (rowsOk m) c)
theorem outs_lb : outsB m 4 main_call0_v8_2 c = labelsI (W3 m) c :=
  (Pipeline.afterRegion_arr (dat1 (W3 m) (rowsOk m) c) (W3 m c) winFacts1.arr_inj 5).trans (final5 (W3 m) (rowsOk m) c)

theorem drop_at {e : EltTy} (T : Vec Ideal S4x256x1 e) (b : Fin 4) (r : Fin 256) : shapeCast S4x256 T shapeCasts_S4x256x1_S4x256 (ix2 b r) = T (ix3 b r 0) := by
  pointwise

/-- The boxes left. -/
theorem end_box : (V5 m (outsB m) c (Proc.devRef .tc main_v0_0) : S4x256x7.Idx → EReal) = fun y => outBox (sM m c (y 0)) (bM m c (y 0)) (y 1) (y 2) := by
  refine (V5_of m (outsB m) c main_v0_0 (by decide)).trans ?_
  have h : V4 m (outsB m) c (Proc.devRef .tc main_v0_0) = outsB m 4 main_v0_0 c := by
    unfold V4
    rw [Function.update_of_ne (StableHlo.devRef_ne_of_ne (show main_v0_0 ≠ main_call0_v8_2 by decide)), Function.update_of_ne (StableHlo.devRef_ne_of_ne (show main_v0_0 ≠ main_call0_v8_1 by decide)), Function.update_self]
  refine (h.trans (outs_box m c)).trans ?_
  exact funext fun y => whole_box m c y
/-- The scores left. -/
theorem end_score : (V5 m (outsB m) c (Proc.devRef .tc main_v0_1) : S4x256.Idx → EReal) = fun y => outScore (sM m c (y 0)) (bM m c (y 0)) (y 1) := by
  have h : V4 m (outsB m) c (Proc.devRef .tc main_call0_v8_1) = outsB m 4 main_call0_v8_1 c := by
    unfold V4
    rw [Function.update_of_ne (StableHlo.devRef_ne_of_ne (show main_call0_v8_1 ≠ main_call0_v8_2 by decide)), Function.update_self]
  have h5 : V5 m (outsB m) c (Proc.devRef .tc main_v0_1) = shapeCast S4x256 (V4 m (outsB m) c (Proc.devRef .tc main_call0_v8_1)) shapeCasts_S4x256x1_S4x256 := by
    unfold V5 hostOps2
    after_results_entrywise [cast_eq]
  rw [h5, h, outs_sc]
  funext y
  idx_vars y
  exact (drop_at (e := .f32) _ y0 y1).trans (whole_score m c _)
/-- The labels left. -/
theorem end_label : (V5 m (outsB m) c (Proc.devRef .tc main_v0_2) : S4x256.Idx → BitVec 32) = fun y => outLabel (sM m c (y 0)) (bM m c (y 0)) (lM m c (y 0)) (y 1) := by
  have h : V4 m (outsB m) c (Proc.devRef .tc main_call0_v8_2) = outsB m 4 main_call0_v8_2 c := by
    unfold V4
    rw [Function.update_self]
  have h5 : V5 m (outsB m) c (Proc.devRef .tc main_v0_2) = shapeCast S4x256 (V4 m (outsB m) c (Proc.devRef .tc main_call0_v8_2)) shapeCasts_S4x256x1_S4x256 := by
    unfold V5 hostOps2
    after_results_entrywise [cast_eq]
  rw [h5, h, outs_lb]
  funext y
  idx_vars y
  exact (drop_at (e := .i32) _ y0 y1).trans (whole_label m c _)
end
end Cert.KernelIdeal.Pf
end
-- ==== Proof.RefHost.lean ====
/- The reference's host operations read as functions: each stretch's results over the values it starts from. -/
module

public import proofs.«01_k».proof.Proof.RefRun
public import Idealize.ShloMosaic.Lib.StableHlo.RunRead
public import Idealize.ShloMosaic.Lib.StableHlo.RunClose

@[expose] public section

set_option maxRecDepth 100000

noncomputable section

namespace Cert.ReferenceIdeal.Pf

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]
variable (V : Valuation τ sig (Elt F))

/-- The largest of the three class scores. -/
def hScores (x : Vec F S4x20000x3 .f32) : Vec F S4x20000 .f32 :=
  Host.reduce FloatOps.maximumf x (constant S_ .f32 0xFF800000#32) reducesTo_S4x20000x3_S4x20000_d2 h_S_
/-- The class of the largest score, counted from one. -/
def hLabels (x : Vec F S4x20000x3 .f32) : Vec F S4x20000 .i32 :=
  addi (fun j => (Host.argReduce reducer_argmax_f32_i32 x (iotaInDim S4x20000x3 32 2) (constant S_ .f32 0xFF800000#32) (constantI S_ 32 0#32) reducesTo_S4x20000x3_S4x20000_d2 h_S_ j).2)
    (broadcastInDim S4x20000 ![] bcast_S_S4x20000 (constantI S_ 32 1#32))
/-- The scores with those not above the threshold replaced by minus one. -/
def hMasked (x : Vec F S4x20000x3 .f32) : Vec F S4x20000 .f32 :=
  select (cmpf .ogt (hScores x) (broadcastInDim S4x20000 ![] bcast_S_S4x20000 (constant S_ .f32 0x3DCCCCCD#32))) (hScores x)
    (broadcastInDim S4x20000 ![] bcast_S_S4x20000 (constant S_ .f32 0xBF800000#32))

theorem seg0_scores : after hostOps0 V (Proc.devRef .tc main_v0) = hScores (V (Proc.devRef .tc main_arg0)) := by
  unfold hScores; after_results_entrywise [cast_eq]
theorem seg1_arg : after hostOps0_1 V (Proc.devRef .tc main_v1) = (fun j => (Host.argReduce reducer_argmax_f32_i32 (V (Proc.devRef .tc main_arg0)) (iotaInDim S4x20000x3 32 2) (constant S_ .f32 0xFF800000#32) (constantI S_ 32 0#32) reducesTo_S4x20000x3_S4x20000_d2 h_S_ j).2) := by
  after_results_entrywise [cast_eq]
theorem seg2_labels : after hostOps0_2 V (Proc.devRef .tc main_v3) = addi (V (Proc.devRef .tc main_v1)) (broadcastInDim S4x20000 ![] bcast_S_S4x20000 (constantI S_ 32 1#32)) := by
  after_results_entrywise [cast_eq]
theorem seg2_valid : after hostOps0_2 V (Proc.devRef .tc main_v5) = cmpf .ogt (V (Proc.devRef .tc main_v0)) (broadcastInDim S4x20000 ![] bcast_S_S4x20000 (constant S_ .f32 0x3DCCCCCD#32)) := by
  after_results_entrywise [cast_eq]
theorem seg2_neg : after hostOps0_2 V (Proc.devRef .tc main_cst_1) = (constant S_ .f32 0xBF800000#32) := by
  after_results_entrywise [cast_eq]
theorem seg3_masked : after hostOps0_3 V (Proc.devRef .tc main_v6) = select (V (Proc.devRef .tc main_v5)) (V (Proc.devRef .tc main_v0)) (broadcastInDim S4x20000 ![] bcast_S_S4x20000 (V (Proc.devRef .tc main_cst_1))) := by
  after_results_entrywise [cast_eq]
theorem seg4_values : after hostOps0_4 V (Proc.devRef .tc main_values) = (Host.topK S4x1024 1 (FloatOps.cmpfTotal .gt) (V (Proc.devRef .tc main_v6)) sliceFits_S4x20000_S4x1024).1 := by
  after_results_entrywise [cast_eq]
theorem seg4_indices : after hostOps0_4 V (Proc.devRef .tc main_indices) = (Host.topK S4x1024 1 (FloatOps.cmpfTotal .gt) (V (Proc.devRef .tc main_v6)) sliceFits_S4x20000_S4x1024).2 := by
  after_results_entrywise [cast_eq]
theorem seg4_v7 : after hostOps0_4 V (Proc.devRef .tc main_v7) = broadcastInDim S4x1024x1 ![0, 1] bcast_S4x1024_S4x1024x1_0_1 (Host.topK S4x1024 1 (FloatOps.cmpfTotal .gt) (V (Proc.devRef .tc main_v6)) sliceFits_S4x20000_S4x1024).2 := by
  after_results_entrywise [cast_eq]

/-- Boxes taken along the row axis, as the reference writes it: negative numbers counted from the end, numbers outside the table filled. -/
def hTakeBoxes (x : Vec F S4x20000x7 .f32) (i : Vec F S4x1024x1 .i32) : Vec F S4x1024x7 .f32 :=
  let w : Vec F S4x1024x1 .i32 := select (cmpi .slt i (broadcastInDim S4x1024x1 ![] bcast_S_S4x1024x1 (constantI S_ 32 0#32)))
    (addi i (broadcastInDim S4x1024x1 ![] bcast_S_S4x1024x1 (constantI S_ 32 20000#32))) i
  select (broadcastInDim S4x1024x7 ![0, 1] bcast_S4x1024_S4x1024x7_0_1
      (Host.reduce IntOp.andi (andi (cmpi .sge w (broadcastInDim S4x1024x1 ![] bcast_S_S4x1024x1 (constantI S_ 32 0#32)))
        (cmpi .sle w (broadcastInDim S4x1024x1 ![0, 1, 2] bcast_S1x1x1_S4x1024x1_0_1_2 (broadcastInDim S1x1x1 ![2] bcast_S1_S1x1x1_2 (constantI S1 32 19999#32)))))
        (constantI S_ 1 1#1) reducesTo_S4x1024x1_S4x1024_d2 h_S_))
    (Host.gather gather_S4x20000x7_S4x1024x1_S4x1024x7_2_1_0_0_1_2_117 x w)
    (broadcastInDim S4x1024x7 ![] bcast_S_S4x1024x7 (constant S_ .f32 0x7FC00000#32))
/-- Labels taken along the row axis. -/
def hTakeLabels (x : Vec F S4x20000 .i32) (i : Vec F S4x1024 .i32) : Vec F S4x1024 .i32 :=
  let w : Vec F S4x1024x1 .i32 := shapeCast S4x1024x1 (select (cmpi .slt i (broadcastInDim S4x1024 ![] bcast_S_S4x1024 (constantI S_ 32 0#32)))
    (addi i (broadcastInDim S4x1024 ![] bcast_S_S4x1024 (constantI S_ 32 20000#32))) i) shapeCasts_S4x1024_S4x1024x1
  select (Host.reduce IntOp.andi (andi (cmpi .sge w (broadcastInDim S4x1024x1 ![] bcast_S_S4x1024x1 (constantI S_ 32 0#32)))
        (cmpi .sle w (broadcastInDim S4x1024x1 ![0, 1, 2] bcast_S1x1x1_S4x1024x1_0_1_2 (broadcastInDim S1x1x1 ![2] bcast_S1_S1x1x1_2 (constantI S1 32 19999#32)))))
        (constantI S_ 1 1#1) reducesTo_S4x1024x1_S4x1024_d2 h_S_)
    (Host.gather gather_S4x20000_S4x1024x1_S4x1024_n_1_0_0_1_2_11 x w)
    (broadcastInDim S4x1024 ![] bcast_S_S4x1024 (constantI S_ 32 2147483648#32))

theorem seg5_boxes : after hostOps0_5 V (Proc.devRef .tc main_v8) = hTakeBoxes (V (Proc.devRef .tc main_arg1)) (V (Proc.devRef .tc main_v7)) := by
  unfold hTakeBoxes; after_results_entrywise [cast_eq]
theorem seg6_labels : after hostOps0_6 V (Proc.devRef .tc main_v9) = hTakeLabels (V (Proc.devRef .tc main_v3)) (V (Proc.devRef .tc main_indices)) := by
  unfold hTakeLabels; after_results_entrywise [cast_eq]

/-- One column of the boxes. -/
def hCol (k : Fin 3 → ℕ) (h : S4x1024x7.Slices k S4x1024x1) (x : Vec F S4x1024x7 .f32) : Vec F S4x1024 .f32 :=
  shapeCast S4x1024 (extractStridedSlice S4x1024x1 k x h) shapeCasts_S4x1024x1_S4x1024
/-- A column along the rows of the table of pairs. -/
def hDown (x : Vec F S4x1024 .f32) : Vec F S4x1024x1024 .f32 :=
  broadcastInDim S4x1024x1024 ![0, 1, 2] bcast_S4x1024x1_S4x1024x1024_0_1_2 (broadcastInDim S4x1024x1 ![0, 1] bcast_S4x1024_S4x1024x1_0_1 x)
/-- A column along the columns of the table of pairs. -/
def hAcross (x : Vec F S4x1024 .f32) : Vec F S4x1024x1024 .f32 :=
  broadcastInDim S4x1024x1024 ![0, 1, 2] bcast_S4x1x1024_S4x1024x1024_0_1_2 (broadcastInDim S4x1x1024 ![0, 2] bcast_S4x1024_S4x1x1024_0_2 x)
/-- Half of a column. -/
def hHalf (x : Vec F S4x1024 .f32) : Vec F S4x1024 .f32 :=
  Host.divf x (broadcastInDim S4x1024 ![] bcast_S_S4x1024 (constant S_ .f32 0x40000000#32))
/-- The overlap of two intervals, no less than zero. -/
def hOverlap (lo hi : Vec F S4x1024 .f32) : Vec F S4x1024x1024 .f32 :=
  maximumf (subf (minimumf (hDown hi) (hAcross hi)) (maximumf (hDown lo) (hAcross lo)))
    (broadcastInDim S4x1024x1024 ![] bcast_S_S4x1024x1024 (constant S_ .f32 0x00000000#32))
/-- The overlap of the boxes, given centres and sizes. -/
def hInter (x y dx dy : Vec F S4x1024 .f32) : Vec F S4x1024x1024 .f32 :=
  mulf (hOverlap (subf x (hHalf dx)) (addf x (hHalf dx))) (hOverlap (subf y (hHalf dy)) (addf y (hHalf dy)))
/-- Intersection over union of each pair. -/
def hIou4 (x y dx dy : Vec F S4x1024 .f32) : Vec F S4x1024x1024 .f32 :=
  Host.divf (hInter x y dx dy)
    (maximumf (subf (addf (hDown (mulf dx dy)) (hAcross (mulf dx dy))) (hInter x y dx dy))
      (broadcastInDim S4x1024x1024 ![] bcast_S_S4x1024x1024 (constant S_ .f32 0x358637BD#32)))
/-- Intersection over union of each pair of boxes. -/
def hIou (b : Vec F S4x1024x7 .f32) : Vec F S4x1024x1024 .f32 :=
  hIou4 (hCol ![0, 0, 0] slices_S4x1024x7_S4x1024x1_0_0_0 b) (hCol ![0, 0, 1] slices_S4x1024x7_S4x1024x1_0_0_1 b)
    (hCol ![0, 0, 3] slices_S4x1024x7_S4x1024x1_0_0_3 b) (hCol ![0, 0, 4] slices_S4x1024x7_S4x1024x1_0_0_4 b)

theorem seg7_iou : after hostOps0_7 V (Proc.devRef .tc main_v69_0) = hIou (V (Proc.devRef .tc main_v8)) := by
  unfold hIou hIou4 hInter hOverlap hHalf hAcross hDown hCol; after_results_entrywise [cast_eq]
theorem seg7_idx : after hostOps0_7 V (Proc.devRef .tc main_v69_1) = iotaInDim S1024 32 0 := by
  after_results_entrywise [cast_eq]
theorem seg7_i : after hostOps0_7 V (Proc.devRef .tc main_v69_3) = constantI S_ 32 0#32 := by
  after_results_entrywise [cast_eq]
theorem seg7_keep : after hostOps0_7 V (Proc.devRef .tc main_v69_4) = broadcastInDim S4x1024 ![] bcast_S_S4x1024 (constantI S_ 1 1#1) := by
  after_results_entrywise [cast_eq]

end Cert.ReferenceIdeal.Pf
-- ==== Proof.RefValue.lean ====
/- The reference's three results in closed form over its arguments. -/
module

public import proofs.«01_k».proof.Proof.RefHost

@[expose] public section

set_option maxRecDepth 100000

noncomputable section

namespace Cert.ReferenceIdeal.Pf

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- The row number as the loop reads it. -/
def hRowNo (i : Vec F S_ .i32) : Vec F S_ .i32 := select (cmpi .slt i (constantI S_ 32 0#32)) (addi (id i) (constantI S_ 32 1024#32)) i

/-- One trip of the greedy loop. -/
def hStep (iou : Vec F S4x1024x1024 .f32) (ix : Vec F S1024 .i32) (i : Vec F S_ .i32) (keep : Vec F S4x1024 .i1) : Vec F S4x1024 .i1 :=
  andi keep (noti (andi (andi (cmpf .ogt (shapeCast S4x1024 (Host.dynamicSlice S4x1x1024 iou
      (fun k => (((![constantI S_ 32 0#32, hRowNo (F := F) i, constantI S_ 32 0#32] : Fin 3 → (⟨S_, .i32⟩ : BufTy).Contents (Elt F))) k (Shape.Idx.first h_S_)).toInt) sliceFits_S4x1024x1024_S4x1x1024) shapeCasts_S4x1x1024_S4x1024)
      (broadcastInDim S4x1024 ![] bcast_S_S4x1024 (constant S_ .f32 0x3F000000#32)))
    (broadcastInDim S4x1024 ![0, 1] bcast_S1x1024_S4x1024_0_1 (broadcastInDim S1x1024 ![1] bcast_S1024_S1x1024_1 (cmpi .sgt ix (broadcastInDim S1024 ![] bcast_S_S1024 (id i))))))
    (broadcastInDim S4x1024 ![0, 1] bcast_S4x1_S4x1024_0_1 (Host.dynamicSlice S4x1 keep
      (fun k => (((![constantI S_ 32 0#32, hRowNo (F := F) i] : Fin 2 → (⟨S_, .i32⟩ : BufTy).Contents (Elt F))) k (Shape.Idx.first h_S_)).toInt) sliceFits_S4x1024_S4x1))))

/-- Which boxes are kept after `k` trips. -/
def hKeep (iou : Vec F S4x1024x1024 .f32) : ℕ → Vec F S4x1024 .i1
  | 0 => broadcastInDim S4x1024 ![] bcast_S_S4x1024 (constantI S_ 1 1#1)
  | k + 1 => hStep iou (iotaInDim S1024 32 0) (fun _ => Scf.iv 0#32 1#32 k) (hKeep iou k)

/-- The scores of the kept boxes, the others minus one. -/
def hSel (v : Vec F S4x1024 .f32) (keep : Vec F S4x1024 .i1) : Vec F S4x1024 .f32 :=
  select (andi keep (cmpf .ogt v (broadcastInDim S4x1024 ![] bcast_S_S4x1024 (constant S_ .f32 0x00000000#32)))) v
    (broadcastInDim S4x1024 ![] bcast_S_S4x1024 (id (constant S_ .f32 0xBF800000#32)))

/-- Boxes of the final rows. -/
def hPickBoxes (x : Vec F S4x1024x7 .f32) (i : Vec F S4x256x1 .i32) : Vec F S4x256x7 .f32 :=
  let w : Vec F S4x256x1 .i32 := select (cmpi .slt i (broadcastInDim S4x256x1 ![] bcast_S_S4x256x1 (constantI S_ 32 0#32)))
    (addi i (broadcastInDim S4x256x1 ![] bcast_S_S4x256x1 (constantI S_ 32 1024#32))) i
  select (broadcastInDim S4x256x7 ![0, 1] bcast_S4x256_S4x256x7_0_1
      (Host.reduce IntOp.andi (andi (cmpi .sge w (broadcastInDim S4x256x1 ![] bcast_S_S4x256x1 (constantI S_ 32 0#32)))
        (cmpi .sle w (broadcastInDim S4x256x1 ![0, 1, 2] bcast_S1x1x1_S4x256x1_0_1_2 (broadcastInDim S1x1x1 ![2] bcast_S1_S1x1x1_2 (constantI S1 32 1023#32)))))
        (constantI S_ 1 1#1) reducesTo_S4x256x1_S4x256_d2 h_S_))
    (Host.gather gather_S4x1024x7_S4x256x1_S4x256x7_2_1_0_0_1_2_117 x w)
    (broadcastInDim S4x256x7 ![] bcast_S_S4x256x7 (constant S_ .f32 0x7FC00000#32))
/-- Labels of the final rows. -/
def hPickLabels (x : Vec F S4x1024 .i32) (i : Vec F S4x256 .i32) : Vec F S4x256 .i32 :=
  let w : Vec F S4x256x1 .i32 := shapeCast S4x256x1 (select (cmpi .slt i (broadcastInDim S4x256 ![] bcast_S_S4x256 (constantI S_ 32 0#32)))
    (addi i (broadcastInDim S4x256 ![] bcast_S_S4x256 (constantI S_ 32 1024#32))) i) shapeCasts_S4x256_S4x256x1
  select (Host.reduce IntOp.andi (andi (cmpi .sge w (broadcastInDim S4x256x1 ![] bcast_S_S4x256x1 (constantI S_ 32 0#32)))
        (cmpi .sle w (broadcastInDim S4x256x1 ![0, 1, 2] bcast_S1x1x1_S4x256x1_0_1_2 (broadcastInDim S1x1x1 ![2] bcast_S1_S1x1x1_2 (constantI S1 32 1023#32)))))
        (constantI S_ 1 1#1) reducesTo_S4x256x1_S4x256_d2 h_S_)
    (Host.gather gather_S4x1024_S4x256x1_S4x256_n_1_0_0_1_2_11 x w)
    (broadcastInDim S4x256 ![] bcast_S_S4x256 (constantI S_ 32 2147483648#32))
/-- The final choice: the largest of the kept scores and their places. -/
def hTop (sel : Vec F S4x1024 .f32) : Vec F S4x256 .f32 × Vec F S4x256 .i32 := Host.topK S4x256 1 (FloatOps.cmpfTotal .gt) sel sliceFits_S4x1024_S4x256
/-- Whether a final score is above zero. -/
def hPos (s : Vec F S4x256 .f32) : Vec F S4x256 .i1 := cmpf .ogt s (broadcastInDim S4x256 ![] bcast_S_S4x256 (constant S_ .f32 0x00000000#32))

section post
variable (V : Valuation τ sig (Elt F))
theorem post8_mask : after hostOps0_8 V (Proc.devRef .tc main_v72) = andi (V (Proc.devRef .tc main_v69_4)) (cmpf .ogt (V (Proc.devRef .tc main_values)) (broadcastInDim S4x1024 ![] bcast_S_S4x1024 (constant S_ .f32 0x00000000#32))) := by
  after_results_entrywise [cast_eq]
theorem post8_neg : after hostOps0_8 V (Proc.devRef .tc main_cst_13) = constant S_ .f32 0xBF800000#32 := by
  after_results_entrywise [cast_eq]
theorem post9_sel : after hostOps0_9 V (Proc.devRef .tc main_v73) = select (V (Proc.devRef .tc main_v72)) (V (Proc.devRef .tc main_values)) (broadcastInDim S4x1024 ![] bcast_S_S4x1024 (id (V (Proc.devRef .tc main_cst_13)))) := by
  after_results_entrywise [cast_eq]
theorem post10_top : after hostOps0_10 V (Proc.devRef .tc main_values_14) = (hTop (V (Proc.devRef .tc main_v73))).1 := by
  unfold hTop; after_results_entrywise [cast_eq]
theorem post10_idx : after hostOps0_10 V (Proc.devRef .tc main_indices_15) = (hTop (V (Proc.devRef .tc main_v73))).2 := by
  unfold hTop; after_results_entrywise [cast_eq]
theorem post10_v74 : after hostOps0_10 V (Proc.devRef .tc main_v74) = broadcastInDim S4x256x1 ![0, 1] bcast_S4x256_S4x256x1_0_1 (hTop (V (Proc.devRef .tc main_v73))).2 := by
  unfold hTop; after_results_entrywise [cast_eq]
theorem post11_boxes : after hostOps0_11 V (Proc.devRef .tc main_v75) = hPickBoxes (V (Proc.devRef .tc main_v8)) (V (Proc.devRef .tc main_v74)) := by
  unfold hPickBoxes; after_results_entrywise [cast_eq]
theorem post12_pos : after hostOps0_12 V (Proc.devRef .tc main_v77) = hPos (V (Proc.devRef .tc main_values_14)) := by
  unfold hPos; after_results_entrywise [cast_eq]
theorem post13_labels : after hostOps0_13 V (Proc.devRef .tc main_v78) = hPickLabels (V (Proc.devRef .tc main_v9)) (V (Proc.devRef .tc main_indices_15)) := by
  unfold hPickLabels; after_results_entrywise [cast_eq]
theorem post15_labels : after hostOps0_15 (after hostOps0_14 V) (Proc.devRef .tc main_v79) = select (V (Proc.devRef .tc main_v77)) (V (Proc.devRef .tc main_v78)) (broadcastInDim S4x256 ![] bcast_S_S4x256 (id (constantI S_ 32 0#32))) := by
  after_results_entrywise [cast_eq]
theorem post17_scores : after hostOps0_17 (after hostOps0_16 V) (Proc.devRef .tc main_v82) = select (hPos (V (Proc.devRef .tc main_values_14))) (V (Proc.devRef .tc main_values_14)) (broadcastInDim S4x256 ![] bcast_S_S4x256 (id (constant S_ .f32 0x00000000#32))) := by
  unfold hPos; after_results_entrywise [cast_eq]

theorem keep8_main_v8 : after hostOps0_8 V (Proc.devRef .tc main_v8) = V (Proc.devRef .tc main_v8) := by
  after_results_entrywise [cast_eq]
theorem keep8_main_v9 : after hostOps0_8 V (Proc.devRef .tc main_v9) = V (Proc.devRef .tc main_v9) := by
  after_results_entrywise [cast_eq]
theorem keep8_main_values : after hostOps0_8 V (Proc.devRef .tc main_values) = V (Proc.devRef .tc main_values) := by
  after_results_entrywise [cast_eq]
theorem keep9_main_v8 : after hostOps0_9 V (Proc.devRef .tc main_v8) = V (Proc.devRef .tc main_v8) := by
  after_results_entrywise [cast_eq]
theorem keep9_main_v9 : after hostOps0_9 V (Proc.devRef .tc main_v9) = V (Proc.devRef .tc main_v9) := by
  after_results_entrywise [cast_eq]
theorem keep10_main_v8 : after hostOps0_10 V (Proc.devRef .tc main_v8) = V (Proc.devRef .tc main_v8) := by
  after_results_entrywise [cast_eq]
theorem keep10_main_v9 : after hostOps0_10 V (Proc.devRef .tc main_v9) = V (Proc.devRef .tc main_v9) := by
  after_results_entrywise [cast_eq]
theorem keep11_main_indices_15 : after hostOps0_11 V (Proc.devRef .tc main_indices_15) = V (Proc.devRef .tc main_indices_15) := by
  after_results_entrywise [cast_eq]
theorem keep11_main_v9 : after hostOps0_11 V (Proc.devRef .tc main_v9) = V (Proc.devRef .tc main_v9) := by
  after_results_entrywise [cast_eq]
theorem keep11_main_values_14 : after hostOps0_11 V (Proc.devRef .tc main_values_14) = V (Proc.devRef .tc main_values_14) := by
  after_results_entrywise [cast_eq]
theorem keep12_main_indices_15 : after hostOps0_12 V (Proc.devRef .tc main_indices_15) = V (Proc.devRef .tc main_indices_15) := by
  after_results_entrywise [cast_eq]
theorem keep12_main_v75 : after hostOps0_12 V (Proc.devRef .tc main_v75) = V (Proc.devRef .tc main_v75) := by
  after_results_entrywise [cast_eq]
theorem keep12_main_v9 : after hostOps0_12 V (Proc.devRef .tc main_v9) = V (Proc.devRef .tc main_v9) := by
  after_results_entrywise [cast_eq]
theorem keep12_main_values_14 : after hostOps0_12 V (Proc.devRef .tc main_values_14) = V (Proc.devRef .tc main_values_14) := by
  after_results_entrywise [cast_eq]
theorem keep13_main_v75 : after hostOps0_13 V (Proc.devRef .tc main_v75) = V (Proc.devRef .tc main_v75) := by
  after_results_entrywise [cast_eq]
theorem keep13_main_v77 : after hostOps0_13 V (Proc.devRef .tc main_v77) = V (Proc.devRef .tc main_v77) := by
  after_results_entrywise [cast_eq]
theorem keep13_main_values_14 : after hostOps0_13 V (Proc.devRef .tc main_values_14) = V (Proc.devRef .tc main_values_14) := by
  after_results_entrywise [cast_eq]
theorem keep14_main_v75 : after hostOps0_14 V (Proc.devRef .tc main_v75) = V (Proc.devRef .tc main_v75) := by
  after_results_entrywise [cast_eq]
theorem keep14_main_values_14 : after hostOps0_14 V (Proc.devRef .tc main_values_14) = V (Proc.devRef .tc main_values_14) := by
  after_results_entrywise [cast_eq]
theorem keep15_main_v75 : after hostOps0_15 V (Proc.devRef .tc main_v75) = V (Proc.devRef .tc main_v75) := by
  after_results_entrywise [cast_eq]
theorem keep15_main_values_14 : after hostOps0_15 V (Proc.devRef .tc main_values_14) = V (Proc.devRef .tc main_values_14) := by
  after_results_entrywise [cast_eq]
theorem keep16_main_v75 : after hostOps0_16 V (Proc.devRef .tc main_v75) = V (Proc.devRef .tc main_v75) := by
  after_results_entrywise [cast_eq]
theorem keep16_main_v79 : after hostOps0_16 V (Proc.devRef .tc main_v79) = V (Proc.devRef .tc main_v79) := by
  after_results_entrywise [cast_eq]
theorem keep17_main_v75 : after hostOps0_17 V (Proc.devRef .tc main_v75) = V (Proc.devRef .tc main_v75) := by
  after_results_entrywise [cast_eq]
theorem keep17_main_v79 : after hostOps0_17 V (Proc.devRef .tc main_v79) = V (Proc.devRef .tc main_v79) := by
  after_results_entrywise [cast_eq]
/-- The scores the final choice is made of. -/
def postSel : Vec F S4x1024 .f32 := hSel (V (Proc.devRef .tc main_values)) (V (Proc.devRef .tc main_v69_4))

theorem post_v73 : after hostOps0_9 (after hostOps0_8 V) (Proc.devRef .tc main_v73) = postSel V := by
  rw [post9_sel, post8_mask, post8_neg, keep8_main_values]; rfl
theorem post_boxes : afterL postI V (Proc.devRef .tc main_v75) = hPickBoxes (V (Proc.devRef .tc main_v8)) (broadcastInDim S4x256x1 ![0, 1] bcast_S4x256_S4x256x1_0_1 (hTop (postSel V)).2) := by
  simp only [afterL_cons, afterL_nil]
  rw [keep17_main_v75, keep16_main_v75, keep15_main_v75, keep14_main_v75, keep13_main_v75, keep12_main_v75, post11_boxes, post10_v74, post_v73, keep10_main_v8, keep9_main_v8, keep8_main_v8]
theorem post_labels : afterL postI V (Proc.devRef .tc main_v79) = select (hPos (hTop (postSel V)).1) (hPickLabels (V (Proc.devRef .tc main_v9)) (hTop (postSel V)).2) (broadcastInDim S4x256 ![] bcast_S_S4x256 (id (constantI S_ 32 0#32))) := by
  simp only [afterL_cons, afterL_nil]
  rw [keep17_main_v79, keep16_main_v79, post15_labels, keep13_main_v77, post13_labels, post12_pos, keep12_main_v9, keep12_main_indices_15, keep11_main_values_14, keep11_main_v9, keep11_main_indices_15, post10_top, post10_idx, post_v73, keep10_main_v9, keep9_main_v9, keep8_main_v9]
theorem post_scores : afterL postI V (Proc.devRef .tc main_v82) = select (hPos (hTop (postSel V)).1) (hTop (postSel V)).1 (broadcastInDim S4x256 ![] bcast_S_S4x256 (id (constant S_ .f32 0x00000000#32))) := by
  simp only [afterL_cons, afterL_nil]
  rw [post17_scores, keep15_main_values_14, keep14_main_values_14, keep13_main_values_14, keep12_main_values_14, keep11_main_values_14, post10_top, post_v73]
end post

variable (m : (ℓ : Loc nD τ sig) → Buf (Elt F) ℓ) (ρ : Dev nD → PrngReg) (c : Dev nD)

/-- The class scores and the boxes, the reference's arguments. -/
abbrev rCls : Vec F S4x20000x3 .f32 := m ((c.tc : Thread nD τ).loc main_arg0)
abbrev rBox : Vec F S4x20000x7 .f32 := m ((c.tc : Thread nD τ).loc main_arg1)
/-- The largest 1024 scores and their places. -/
def hFirst (x : Vec F S4x20000x3 .f32) : Vec F S4x1024 .f32 × Vec F S4x1024 .i32 := Host.topK S4x1024 1 (FloatOps.cmpfTotal .gt) (hMasked x) sliceFits_S4x20000_S4x1024
/-- The boxes of the largest 1024 scores. -/
def hBoxes (x : Vec F S4x20000x3 .f32) (b : Vec F S4x20000x7 .f32) : Vec F S4x1024x7 .f32 :=
  hTakeBoxes b (broadcastInDim S4x1024x1 ![0, 1] bcast_S4x1024_S4x1024x1_0_1 (hFirst x).2)

theorem entry_main_v6 : after hostOps0_3 (after hostOps0_2 (after hostOps0_1 (after hostOps0 (fun b => m (c, b))))) (Proc.devRef .tc main_v6) = hMasked (rCls m c) := by
  rw [seg3_masked, seg2_valid, seg2_neg, after_of_writes_sub hostOps0_2 _ hostOps0_2_writes (by decide), after_of_writes_sub hostOps0_1 _ hostOps0_1_writes (by decide), seg0_scores]; rfl
theorem entry_main_values : entryContents preI m c (Proc.devRef .tc main_values) = (hFirst (rCls m c)).1 := by
  simp only [entryContents, afterL_cons, afterL_nil]
  rw [after_of_writes_sub hostOps0_7 _ hostOps0_7_writes (by decide), after_of_writes_sub hostOps0_6 _ hostOps0_6_writes (by decide), after_of_writes_sub hostOps0_5 _ hostOps0_5_writes (by decide), seg4_values]; exact congrArg (fun v => (Host.topK S4x1024 1 (FloatOps.cmpfTotal .gt) v sliceFits_S4x20000_S4x1024).1) (entry_main_v6 m c)
theorem entry_main_v8 : entryContents preI m c (Proc.devRef .tc main_v8) = hBoxes (rCls m c) (rBox m c) := by
  simp only [entryContents, afterL_cons, afterL_nil]
  rw [after_of_writes_sub hostOps0_7 _ hostOps0_7_writes (by decide), after_of_writes_sub hostOps0_6 _ hostOps0_6_writes (by decide), seg5_boxes, seg4_v7, after_of_writes_sub hostOps0_4 _ hostOps0_4_writes (by decide), after_of_writes_sub hostOps0_3 _ hostOps0_3_writes (by decide), after_of_writes_sub hostOps0_2 _ hostOps0_2_writes (by decide), after_of_writes_sub hostOps0_1 _ hostOps0_1_writes (by decide), after_of_writes_sub hostOps0 _ hostOps0_writes (by decide)]
  unfold hBoxes hFirst
  refine (congrArg (hTakeBoxes _) (?_ : _ = _)).trans rfl
  refine congrArg (fun v : Vec F S4x1024 .i32 => broadcastInDim S4x1024x1 ![0, 1] bcast_S4x1024_S4x1024x1_0_1 v) (?_ : _ = _)
  refine congrArg (fun v => (Host.topK S4x1024 1 (FloatOps.cmpfTotal .gt) v sliceFits_S4x20000_S4x1024).2) (?_ : _ = _)
  exact entry_main_v6 m c
theorem entry_main_v9 : entryContents preI m c (Proc.devRef .tc main_v9) = hTakeLabels (hLabels (rCls m c)) (hFirst (rCls m c)).2 := by
  simp only [entryContents, afterL_cons, afterL_nil]
  rw [after_of_writes_sub hostOps0_7 _ hostOps0_7_writes (by decide), seg6_labels, after_of_writes_sub hostOps0_5 _ hostOps0_5_writes (by decide), after_of_writes_sub hostOps0_5 _ hostOps0_5_writes (by decide), seg4_indices, after_of_writes_sub hostOps0_4 _ hostOps0_4_writes (by decide), after_of_writes_sub hostOps0_3 _ hostOps0_3_writes (by decide), seg2_labels, seg1_arg, after_of_writes_sub hostOps0 _ hostOps0_writes (by decide)]; exact congrArg (fun v => hTakeLabels _ (Host.topK S4x1024 1 (FloatOps.cmpfTotal .gt) v sliceFits_S4x20000_S4x1024).2) (entry_main_v6 m c)
theorem entry_main_v69_0 : entryContents preI m c (Proc.devRef .tc main_v69_0) = hIou (hBoxes (rCls m c) (rBox m c)) := by
  have h := entry_main_v8 m c
  simp only [entryContents, afterL_cons, afterL_nil] at h ⊢
  rw [after_of_writes_sub hostOps0_7 _ hostOps0_7_writes (by decide)] at h
  rw [seg7_iou, h]
theorem entry_main_v69_1 : entryContents preI m c (Proc.devRef .tc main_v69_1) = iotaInDim S1024 32 0 := by
  simp only [entryContents, afterL_cons, afterL_nil]
  rw [seg7_idx]
theorem entry_main_v69_3 : entryContents preI m c (Proc.devRef .tc main_v69_3) = constantI S_ 32 0#32 := by
  simp only [entryContents, afterL_cons, afterL_nil]
  rw [seg7_i]
theorem entry_main_v69_4 : entryContents preI m c (Proc.devRef .tc main_v69_4) = broadcastInDim S4x1024 ![] bcast_S_S4x1024 (constantI S_ 1 1#1) := by
  simp only [entryContents, afterL_cons, afterL_nil]
  rw [seg7_keep]
theorem atK_carried (k : ℕ) :
    atK m k c (Proc.devRef .tc main_v69_0) = hIou (hBoxes (rCls m c) (rBox m c))
    ∧ atK m k c (Proc.devRef .tc main_v69_1) = iotaInDim S1024 32 0
    ∧ atK m k c (Proc.devRef .tc main_v69_3) = (fun _ => Scf.iv 0#32 1#32 k)
    ∧ atK m k c (Proc.devRef .tc main_v69_4) = hKeep (hIou (hBoxes (rCls m c) (rBox m c))) k := by
  induction k with
  | zero =>
    refine ⟨entry_main_v69_0 m c, entry_main_v69_1 m c, ?_, entry_main_v69_4 m c⟩
    rw [Scf.iv_zero]; exact entry_main_v69_3 m c
  | succ k ih =>
    obtain ⟨h0, h1, h3, h4⟩ := ih
    have e : atK m (k + 1) c = afterL bodyI (after condOps (atK m k c)) := rfl
    have ck := cond_keeps (F := F) (atK m k c)
    have c0 := (ck main_v69_0 (by decide)).trans h0
    have c1 := (ck main_v69_1 (by decide)).trans h1
    have c3 := (ck main_v69_3 (by decide)).trans h3
    have c4 := (ck main_v69_4 (by decide)).trans h4
    rw [e]
    refine ⟨(trip_main_v69_0 _).trans c0, (trip_main_v69_1 _).trans c1, ?_, ?_⟩
    · refine (trip_main_v69_3 _).trans ?_
      rw [c3, Scf.iv_succ]; rfl
    · refine (trip_main_v69_4 _).trans ?_
      rw [c0, c1, c3, c4]; rfl

/-- Which boxes the greedy loop keeps. -/
def rKeep : Vec F S4x1024 .i1 := hKeep (hIou (hBoxes (rCls m c) (rBox m c))) 1024
/-- The scores the final choice is made of. -/
def rSel : Vec F S4x1024 .f32 := hSel (hFirst (rCls m c)).1 (rKeep m c)

/-- The contents the operations after the loop start from. -/
abbrev endV : Valuation τ sig (Elt F) := after condOps (atK m 1024 c)
theorem endV_keeps (r : Ref sig .tc) (hc : r ∉ condOps_W) (hb : r ∉ while0Ops0_W) :
    endV m c (Proc.devRef .tc r) = entryContents preI m c (Proc.devRef .tc r) := by
  rw [endV, after_of_writes_sub condOps _ condOps_writes hc]; exact loop_keeps m c r hc hb 1024
theorem endV_sel : postSel (endV m c) = rSel m c := by
  unfold postSel rSel rKeep
  rw [endV_keeps m c main_values (by decide) (by decide), entry_main_values,
    show endV m c (Proc.devRef .tc main_v69_4) = _ from (cond_keeps (atK m 1024 c) main_v69_4 (by decide)).trans (atK_carried m c 1024).2.2.2]

theorem final_boxes : finalContents condOps preI bodyI postI 1024 m c (Proc.devRef .tc main_v75)
    = hPickBoxes (hBoxes (rCls m c) (rBox m c)) (broadcastInDim S4x256x1 ![0, 1] bcast_S4x256_S4x256x1_0_1 (hTop (rSel m c)).2) := by
  rw [show finalContents condOps preI bodyI postI 1024 m c = afterL postI (endV m c) from rfl, post_boxes, endV_sel, endV_keeps m c main_v8 (by decide) (by decide), entry_main_v8]
theorem final_labels : finalContents condOps preI bodyI postI 1024 m c (Proc.devRef .tc main_v79)
    = select (hPos (hTop (rSel m c)).1) (hPickLabels (hTakeLabels (hLabels (rCls m c)) (hFirst (rCls m c)).2) (hTop (rSel m c)).2) (broadcastInDim S4x256 ![] bcast_S_S4x256 (id (constantI S_ 32 0#32))) := by
  rw [show finalContents condOps preI bodyI postI 1024 m c = afterL postI (endV m c) from rfl, post_labels, endV_sel, endV_keeps m c main_v9 (by decide) (by decide), entry_main_v9]
theorem final_scores : finalContents condOps preI bodyI postI 1024 m c (Proc.devRef .tc main_v82)
    = select (hPos (hTop (rSel m c)).1) (hTop (rSel m c)).1 (broadcastInDim S4x256 ![] bcast_S_S4x256 (id (constant S_ .f32 0x00000000#32))) := by
  rw [show finalContents condOps preI bodyI postI 1024 m c = afterL postI (endV m c) from rfl, post_scores, endV_sel]

/-- The reference's run: its three results in closed form, its arguments unchanged, every counter at zero. -/
theorem ref_results : θ_run (defs (F := F)) (onTc (τ := τ) (main (F := F))) ⟨m, fun _ => 0, ρ⟩ (fun r => (∀ c : Dev nD,
      r.2.mem ((c.tc : Thread nD τ).loc main_v75) = hPickBoxes (hBoxes (rCls m c) (rBox m c)) (broadcastInDim S4x256x1 ![0, 1] bcast_S4x256_S4x256x1_0_1 (hTop (rSel m c)).2)
      ∧ r.2.mem ((c.tc : Thread nD τ).loc main_v82) = select (hPos (hTop (rSel m c)).1) (hTop (rSel m c)).1 (broadcastInDim S4x256 ![] bcast_S_S4x256 (id (constant S_ .f32 0x00000000#32)))
      ∧ r.2.mem ((c.tc : Thread nD τ).loc main_v79) = select (hPos (hTop (rSel m c)).1) (hPickLabels (hTakeLabels (hLabels (rCls m c)) (hFirst (rCls m c)).2) (hTop (rSel m c)).2) (broadcastInDim S4x256 ![] bcast_S_S4x256 (id (constantI S_ 32 0#32)))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c main_v75 rfl).trans (final_boxes m c), (h c main_v82 rfl).trans (final_scores m c),
      (h c main_v79 rfl).trans (final_labels m c), (h c main_arg0 rfl).trans (final_arg0 m c), (h c main_arg1 rfl).trans (final_arg1 m c)⟩,
    sem_eq_zero_of_no_sems (by decide) r.2⟩) (run_fold m ρ)

end Cert.ReferenceIdeal.Pf
-- ==== Proof.RefPoint.lean ====
/- The reference's stages read at one place over the extended reals. -/
module

public import proofs.«01_k».proof.Proof.RefValue
public import proofs.«01_k».proof.Proof.NmsWhole
public import Idealize.ShloMosaic.Lib.Pointwise

@[expose] public section

set_option maxRecDepth 100000

noncomputable section

namespace Cert.ReferenceIdeal.Pf

open Cert.ReferenceIdeal Cert.ReferenceIdeal.Gen Cert.ReferenceIdeal.Value
open Idealize.ShloMosaic Idealize.ShloMosaic.TcCoe Idealize.ShloMosaic.StableHlo
open Idealize.ShloMosaic.Pointwise
open Cert.Nms

set_option backward.isDefEq.respectTransparency.types false

/-! ## Numbers -/

theorem two_eq : Ideal.ofBits .f32 1073741824#32 = ((2 : ℝ) : EReal) := by
  simp [Ideal.ofBits, Ideal.ieee]
  rw [← EReal.coe_mul]; norm_num
theorem half_eq : half = ((2⁻¹ : ℝ) : EReal) := by
  simp [half, Ideal.ofBits, Ideal.ieee]
  rw [← EReal.coe_mul]; norm_num
/-- Division by two is multiplication by a half. -/
theorem div_two (x : EReal) : Ideal.div x (Ideal.ofBits .f32 1073741824#32) = x * half := by
  have h : ((2 : ℝ) : EReal) ≠ 0 := fun h => two_ne_zero (EReal.coe_eq_zero.mp h)
  rw [two_eq, half_eq, Ideal.div, if_neg h, EReal.coe_inv]
theorem low_eq : Ideal.ofBits .f32 4286578688#32 = ⊥ := by
  simp [Ideal.ofBits, Ideal.ieee]

theorem wrap_eq (n : ℕ) (hn : n < 2147483648) (y : BitVec 32) : Scalar.select (IntOp.cmpi .slt (BitVec.ofNat 32 n) 0#32) y (BitVec.ofNat 32 n) = BitVec.ofNat 32 n := by
  rw [show (0#32 : BitVec 32) = BitVec.ofNat 32 0 from rfl, word_slt n 0 hn (by decide), select_ofBool, if_neg (Nat.not_lt_zero n)]
theorem in_range (n k : ℕ) (hn : n ≤ k) (hk : k < 2147483648) :
    IntOp.andi (IntOp.cmpi .sge (BitVec.ofNat 32 n) 0#32) (IntOp.cmpi .sle (BitVec.ofNat 32 n) (BitVec.ofNat 32 k)) = 1#1 := by
  have h0 : (BitVec.ofNat 32 n).toInt = n := word_toInt n (by omega)
  have h1 : (BitVec.ofNat 32 k).toInt = k := word_toInt k hk
  have h2 : IntOp.cmpi .sge (BitVec.ofNat 32 n) 0#32 = 1#1 := by
    simp [IntOp.cmpi, BitVec.sle, h0]
  have h3 : IntOp.cmpi .sle (BitVec.ofNat 32 n) (BitVec.ofNat 32 k) = 1#1 := by
    simp [IntOp.cmpi, BitVec.sle, h0, h1, hn]
  rw [h2, h3]; rfl

/-! ## Scores -/

theorem hScores_at (x : Vec Ideal S4x20000x3 .f32) (b : Fin 4) (n : Fin 20000) : hScores x (ix2 b n) = max (max (x (ix3 b n 0)) (x (ix3 b n 1))) (x (ix3 b n 2)) := by
  unfold hScores
  pointwise
  rw [low_eq, show (Finset.univ : Finset (Fin 3)) = {0, 1, 2} from rfl, Finset.fold_insert (by decide), Finset.fold_insert (by decide), Finset.fold_singleton, max_bot_right, max_assoc]
theorem hMasked_at (x : Vec Ideal S4x20000x3 .f32) (b : Fin 4) (n : Fin 20000) : hMasked x (ix2 b n) = scoreOf (x (ix3 b n 0)) (x (ix3 b n 1)) (x (ix3 b n 2)) := by
  unfold hMasked
  pointwise
  rw [hScores_at]
  rfl

/-! ## The table of pairs -/

theorem col_0 (x : Vec Ideal S4x1024x7 .f32) (b : Fin 4) (j : Fin 1024) : hCol ![0, 0, 0] slices_S4x1024x7_S4x1024x1_0_0_0 x (ix2 b j) = x (ix3 b j 0) := by
  unfold hCol; pointwise
theorem col_1 (x : Vec Ideal S4x1024x7 .f32) (b : Fin 4) (j : Fin 1024) : hCol ![0, 0, 1] slices_S4x1024x7_S4x1024x1_0_0_1 x (ix2 b j) = x (ix3 b j 1) := by
  unfold hCol; pointwise
theorem col_3 (x : Vec Ideal S4x1024x7 .f32) (b : Fin 4) (j : Fin 1024) : hCol ![0, 0, 3] slices_S4x1024x7_S4x1024x1_0_0_3 x (ix2 b j) = x (ix3 b j 3) := by
  unfold hCol; pointwise
theorem col_4 (x : Vec Ideal S4x1024x7 .f32) (b : Fin 4) (j : Fin 1024) : hCol ![0, 0, 4] slices_S4x1024x7_S4x1024x1_0_0_4 x (ix2 b j) = x (ix3 b j 4) := by
  unfold hCol; pointwise
theorem hHalf_at (x : Vec Ideal S4x1024 .f32) (b : Fin 4) (j : Fin 1024) : hHalf x (ix2 b j) = x (ix2 b j) * half := by
  unfold hHalf
  pointwise
  exact div_two _
theorem hIou4_at (x y dx dy : Vec Ideal S4x1024 .f32) (b : Fin 4) (i j : Fin 1024) :
    hIou4 x y dx dy (ix3 b i j) = iou (fun a => x (ix2 b a) - dx (ix2 b a) * half) (fun a => x (ix2 b a) + dx (ix2 b a) * half)
      (fun a => y (ix2 b a) - dy (ix2 b a) * half) (fun a => y (ix2 b a) + dy (ix2 b a) * half) (fun a => dx (ix2 b a) * dy (ix2 b a)) i j := by
  unfold hIou4 hInter hOverlap hDown hAcross
  pointwise
  simp only [hHalf_at]
  rfl
/-- One problem's table, with the order of the pair. -/
theorem hIou_at (x : Vec Ideal S4x1024x7 .f32) (b : Fin 4) (i j : Fin 1024) :
    decide (half < hIou x (ix3 b i j) ∧ i < j) = barsOf (fun a k => x (ix3 b a k)) i j := by
  unfold hIou
  rw [hIou4_at]
  simp only [col_0, col_1, col_3, col_4]
  rfl

/-! ## The greedy loop -/

theorem row_read (T : Vec Ideal S4x1024x1024 .f32) (st : Fin 3 → Int) (k : Fin 1024) (h0 : st 0 = (0 : ℕ)) (h1 : st 1 = (k.val : ℕ)) (h2 : st 2 = (0 : ℕ)) (b : Fin 4) (j : Fin 1024) :
    shapeCast S4x1024 (Host.dynamicSlice S4x1x1024 T st sliceFits_S4x1024x1024_S4x1x1024) shapeCasts_S4x1x1024_S4x1024 (ix2 b j) = T (ix3 b k j) := by
  pointwise
  have e0 := Host.clampedStart_of_le (s := S4x1024x1024) (t := S4x1x1024) rfl st 0 0 h0 (by decide)
  have e1 := Host.clampedStart_of_le (s := S4x1024x1024) (t := S4x1x1024) rfl st 1 k.val h1 k.isLt
  have e2 := Host.clampedStart_of_le (s := S4x1024x1024) (t := S4x1x1024) rfl st 2 0 h2 (by decide)
  refine congrArg T (funext fun a => Fin.ext ?_)
  fin_cases a
  · exact (congrArg (· + b.val) e0).trans (Nat.zero_add _)
  · exact e1
  · exact (congrArg (· + j.val) e2).trans (Nat.zero_add _)
theorem col_read (T : Vec Ideal S4x1024 .i1) (st : Fin 2 → Int) (k : Fin 1024) (h0 : st 0 = (0 : ℕ)) (h1 : st 1 = (k.val : ℕ)) (b : Fin 4) (j : Fin 1024) :
    broadcastInDim S4x1024 ![0, 1] bcast_S4x1_S4x1024_0_1 (Host.dynamicSlice S4x1 T st sliceFits_S4x1024_S4x1) (ix2 b j) = T (ix2 b k) := by
  pointwise
  have e0 := Host.clampedStart_of_le (s := S4x1024) (t := S4x1) rfl st 0 0 h0 (by decide)
  have e1 := Host.clampedStart_of_le (s := S4x1024) (t := S4x1) rfl st 1 k.val h1 k.isLt
  refine congrArg T (funext fun a => Fin.ext ?_)
  fin_cases a
  · exact (congrArg (· + b.val) e0).trans (Nat.zero_add _)
  · exact e1
theorem later_at (k : Fin 1024) (b : Fin 4) (j : Fin 1024) :
    broadcastInDim S4x1024 ![0, 1] bcast_S1x1024_S4x1024_0_1 (broadcastInDim S1x1024 ![1] bcast_S1024_S1x1024_1 (cmpi .sgt (iotaInDim S1024 32 0) (broadcastInDim S1024 ![] bcast_S_S1024 (id (fun _ => BitVec.ofNat 32 k.val : IVec S_ 32))))) (ix2 b j)
      = BitVec.ofBool (decide (k < j)) := by
  pointwise
  exact word_sgt j.val k.val (by omega) (by omega)
theorem rowNo_eq (k : Fin 1024) : hRowNo (F := Ideal) (fun _ => BitVec.ofNat 32 k.val) = fun _ => BitVec.ofNat 32 k.val :=
  funext fun _ => wrap_eq k.val (by omega) _

theorem step_bits (p q : Prop) [Decidable p] [Decidable q] (a c : Bool) :
    IntOp.andi (BitVec.ofBool a) (~~~(IntOp.andi (IntOp.andi (BitVec.ofBool (decide p)) (BitVec.ofBool (decide q))) (BitVec.ofBool c)))
      = BitVec.ofBool (a && !(decide (p ∧ q) && c)) := by
  by_cases h1 : p <;> by_cases h2 : q <;> cases a <;> cases c <;> simp [h1, h2, IntOp.andi]
theorem hStep_at (T : Vec Ideal S4x1024x1024 .f32) (k : Fin 1024) (keep : Vec Ideal S4x1024 .i1) (b : Fin 4) (kp : Fin 1024 → Bool)
    (hk : ∀ j, keep (ix2 b j) = BitVec.ofBool (kp j)) (j : Fin 1024) :
    hStep T (iotaInDim S1024 32 0) (fun _ => BitVec.ofNat 32 k.val) keep (ix2 b j)
      = BitVec.ofBool (kp j && !(decide (half < T (ix3 b k j) ∧ k < j) && kp k)) := by
  have hw : (BitVec.ofNat 32 k.val).toInt = (k.val : ℕ) := word_toInt k.val (by omega)
  unfold hStep
  rw [rowNo_eq]
  generalize hA : shapeCast S4x1024 (Host.dynamicSlice S4x1x1024 T _ sliceFits_S4x1024x1024_S4x1x1024) shapeCasts_S4x1x1024_S4x1024 = A
  generalize hB : broadcastInDim S4x1024 ![0, 1] bcast_S4x1_S4x1024_0_1 (Host.dynamicSlice S4x1 keep _ sliceFits_S4x1024_S4x1) = B
  generalize hC : broadcastInDim S4x1024 ![0, 1] bcast_S1x1024_S4x1024_0_1 (broadcastInDim S1x1024 ![1] bcast_S1024_S1x1024_1 (cmpi .sgt (iotaInDim S1024 32 0) (broadcastInDim S1024 ![] bcast_S_S1024 (id (fun _ => BitVec.ofNat 32 k.val : IVec S_ 32))))) = C
  have eA : A (ix2 b j) = T (ix3 b k j) := by rw [← hA]; exact row_read T _ k rfl hw rfl b j
  have eB : B (ix2 b j) = keep (ix2 b k) := by rw [← hB]; exact col_read keep _ k rfl hw b j
  have eC : C (ix2 b j) = BitVec.ofBool (decide (k < j)) := by rw [← hC]; exact later_at k b j
  pointwise
  rw [eA, eB, eC, hk j, hk k]
  exact step_bits _ _ _ _

theorem hKeep_at (x : Vec Ideal S4x1024x7 .f32) (b : Fin 4) (k : ℕ) (hk : k ≤ 1024) (j : Fin 1024) :
    hKeep (hIou x) k (ix2 b j) = BitVec.ofBool (keepAt (barsOf fun a q => x (ix3 b a q)) k j) := by
  induction k generalizing j with
  | zero => unfold hKeep; pointwise; rfl
  | succ k ih =>
    have hlt : k < 1024 := hk
    have ht : turnOf k = ⟨k, hlt⟩ := Fin.ext (Nat.mod_eq_of_lt hlt)
    unfold hKeep keepAt
    rw [show Scf.iv 0#32 1#32 k = BitVec.ofNat 32 k by simp [Scf.iv]]
    rw [hStep_at (hIou x) ⟨k, hlt⟩ _ b _ (ih (by omega)) j, hIou_at, ht]

theorem hSel_at (v : Vec Ideal S4x1024 .f32) (x : Vec Ideal S4x1024x7 .f32) (b : Fin 4) (j : Fin 1024) :
    hSel v (hKeep (hIou x) 1024) (ix2 b j) = sel (fun a q => x (ix3 b a q)) (fun a => v (ix2 b a)) j := by
  unfold hSel
  generalize hK : hKeep (hIou x) 1024 = K
  have eK : K (ix2 b j) = BitVec.ofBool (keepAt (barsOf fun a q => x (ix3 b a q)) 1024 j) := by rw [← hK]; exact hKeep_at x b 1024 (le_refl _) j
  pointwise
  rw [eK]
  unfold sel selOf
  by_cases h1 : keepAt (barsOf fun a q => x (ix3 b a q)) 1024 j <;> by_cases h2 : 0 < v (ix2 b j) <;> simp [h1, h2, IntOp.andi, Scalar.select] <;> rfl
end Cert.ReferenceIdeal.Pf
end
-- ==== Proof.RefTake.lean ====
/- Rows taken by number, read at one place. -/
module

public import proofs.«01_k».proof.Proof.RefPoint
public import Idealize.ShloMosaic.Lib.Pointwise

@[expose] public section

set_option maxRecDepth 100000

noncomputable section

namespace Cert.ReferenceIdeal.Pf

open Cert.ReferenceIdeal Cert.ReferenceIdeal.Gen Cert.ReferenceIdeal.Value
open Idealize.ShloMosaic Idealize.ShloMosaic.TcCoe Idealize.ShloMosaic.StableHlo
open Idealize.ShloMosaic.Pointwise
open Cert.Nms

set_option backward.isDefEq.respectTransparency.types false

section gathers
variable {α : Type} {B N R C : ℕ}

/-- The batched gather of whole rows, read at one place. -/
theorem gather_rows (d : GatherDims ⟨3, ![B, N, C]⟩ ⟨3, ![B, R, 1]⟩ ⟨3, ![B, R, C]⟩) (h1 : d.offsetDims = [2]) (h2 : d.collapsedSliceDims = [1]) (h3 : d.operandBatchingDims = [0])
    (h4 : d.startIndicesBatchingDims = [0]) (h5 : d.startIndexMap = [1]) (h6 : d.indexVectorDim = 2) (h7 : d.sliceSizes = ![1, 1, C])
    (x : (⟨3, ![B, N, C]⟩ : Shape).Idx → α) (i : IVec ⟨3, ![B, R, 1]⟩ 32) (b : Fin B) (j : Fin R) (k : Fin C) (n : Fin N)
    (hn : min (i (ix3 b j 0)).toInt.toNat (N - 1) = n.val) : Host.gather d x i (ix3 b j k) = x (ix3 b n k) := by
  obtain ⟨a1, a2, a3, a4, a5, a6, a7, wf⟩ := d
  simp only at h1 h2 h3 h4 h5 h6 h7
  subst h1 h2 h3 h4 h5 h6 h7
  refine congrArg x (funext fun a => Fin.ext ?_)
  show GatherDims.start _ _ i a + GatherDims.batchCoord _ _ a + GatherDims.offCoord _ _ a = _
  have hs : ∀ c, GatherDims.siIdx (⟨[2], [1], [0], [0], [1], 2, ![1, 1, C], wf⟩ : GatherDims ⟨3, ![B, N, C]⟩ ⟨3, ![B, R, 1]⟩ ⟨3, ![B, R, C]⟩) (ix3 b j k) c = ix3 b j 0 := by
    intro c
    funext a
    refine Fin.ext ?_
    fin_cases a
    · rfl
    · rfl
    · have hc : c.val < 1 := c.isLt
      show c.val = 0
      omega
  obtain rfl | rfl | rfl : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  · rw [GatherDims.start_batching _ _ _ _ (show (0 : Fin 3) ∈ ([0] : List (Fin 3)) by decide), GatherDims.offCoord_eq_zero _ _ _ (fun h => ((GatherDims.mem_sKept _ _).mp h).2 (show (0 : Fin 3) ∈ ([0] : List (Fin 3)) by decide))]
    unfold GatherDims.batchCoord
    rw [dif_pos (show (0 : Fin 3) ∈ ([0] : List (Fin 3)) by decide)]
    exact (Nat.zero_add _)
  · rw [GatherDims.batchCoord_eq_zero _ _ _ (show ¬ (1 : Fin 3) ∈ ([0] : List (Fin 3)) by decide), GatherDims.offCoord_eq_zero _ _ _ (fun h => ((GatherDims.mem_sKept _ _).mp h).1 (show (1 : Fin 3) ∈ ([1] : List (Fin 3)) by decide))]
    unfold GatherDims.start
    rw [dif_pos (show (1 : Fin 3) ∈ ([1] : List (Fin 3)) by decide), hs]
    exact hn
  · rw [GatherDims.batchCoord_eq_zero _ _ _ (show ¬ (2 : Fin 3) ∈ ([0] : List (Fin 3)) by decide)]
    unfold GatherDims.start GatherDims.offCoord
    rw [dif_neg (show ¬ (2 : Fin 3) ∈ ([1] : List (Fin 3)) by decide), dif_pos ((GatherDims.mem_sKept _ _).mpr ⟨(show ¬ (2 : Fin 3) ∈ ([1] : List (Fin 3)) by decide), (show ¬ (2 : Fin 3) ∈ ([0] : List (Fin 3)) by decide)⟩)]
    rw [Nat.zero_add]
    rfl
/-- The batched gather of single entries, read at one place. -/
theorem gather_ones (d : GatherDims ⟨2, ![B, N]⟩ ⟨3, ![B, R, 1]⟩ ⟨2, ![B, R]⟩) (h1 : d.offsetDims = []) (h2 : d.collapsedSliceDims = [1]) (h3 : d.operandBatchingDims = [0])
    (h4 : d.startIndicesBatchingDims = [0]) (h5 : d.startIndexMap = [1]) (h6 : d.indexVectorDim = 2) (h7 : d.sliceSizes = ![1, 1])
    (x : (⟨2, ![B, N]⟩ : Shape).Idx → α) (i : IVec ⟨3, ![B, R, 1]⟩ 32) (b : Fin B) (j : Fin R) (n : Fin N)
    (hn : min (i (ix3 b j 0)).toInt.toNat (N - 1) = n.val) : Host.gather d x i (ix2 b j) = x (ix2 b n) := by
  obtain ⟨a1, a2, a3, a4, a5, a6, a7, wf⟩ := d
  simp only at h1 h2 h3 h4 h5 h6 h7
  subst h1 h2 h3 h4 h5 h6 h7
  refine congrArg x (funext fun a => Fin.ext ?_)
  show GatherDims.start _ _ i a + GatherDims.batchCoord _ _ a + GatherDims.offCoord _ _ a = _
  have hs : ∀ c, GatherDims.siIdx (⟨[], [1], [0], [0], [1], 2, ![1, 1], wf⟩ : GatherDims ⟨2, ![B, N]⟩ ⟨3, ![B, R, 1]⟩ ⟨2, ![B, R]⟩) (ix2 b j) c = ix3 b j 0 := by
    intro c
    funext a
    refine Fin.ext ?_
    fin_cases a
    · rfl
    · rfl
    · have hc : c.val < 1 := c.isLt
      show c.val = 0
      omega
  obtain rfl | rfl : a = (0 : Fin 2) ∨ a = (1 : Fin 2) := by
    match a with
    | ⟨0, _⟩ => exact Or.inl rfl
    | ⟨1, _⟩ => exact Or.inr rfl
  · rw [GatherDims.start_batching _ _ _ _ (show (0 : Fin 2) ∈ ([0] : List (Fin 2)) by decide), GatherDims.offCoord_eq_zero _ _ _ (fun h => ((GatherDims.mem_sKept _ _).mp h).2 (show (0 : Fin 2) ∈ ([0] : List (Fin 2)) by decide))]
    unfold GatherDims.batchCoord
    rw [dif_pos (show (0 : Fin 2) ∈ ([0] : List (Fin 2)) by decide)]
    exact (Nat.zero_add _)
  · rw [GatherDims.batchCoord_eq_zero _ _ _ (show ¬ (1 : Fin 2) ∈ ([0] : List (Fin 2)) by decide), GatherDims.offCoord_eq_zero _ _ _ (fun h => ((GatherDims.mem_sKept _ _).mp h).1 (show (1 : Fin 2) ∈ ([1] : List (Fin 2)) by decide))]
    unfold GatherDims.start
    rw [dif_pos (show (1 : Fin 2) ∈ ([1] : List (Fin 2)) by decide), hs]
    exact hn
end gathers

theorem clamp_eq (n N : ℕ) (hn : n < N) (hN : N < 2147483648) : min (BitVec.ofNat 32 n).toInt.toNat (N - 1) = n := by
  rw [word_toInt n (by omega), Int.toNat_natCast]
  omega

theorem hTakeBoxes_at (x : Vec Ideal S4x20000x7 .f32) (i : Vec Ideal S4x1024x1 .i32) (b : Fin 4) (j : Fin 1024) (k : Fin 7) (n : Fin 20000)
    (hi : i (ix3 b j 0) = BitVec.ofNat 32 n.val) : hTakeBoxes x i (ix3 b j k) = x (ix3 b n k) := by
  unfold hTakeBoxes
  pointwise
  rw [Finset.univ_unique, Finset.fold_singleton]
  rw [show (default : Fin 1) = 0 from rfl, hi, wrap_eq _ (by omega), in_range n.val 19999 (by omega) (by decide)]
  rw [gather_rows _ rfl rfl rfl rfl rfl rfl rfl x _ b j k n]
  · rfl
  · refine Eq.trans ?_ (clamp_eq n.val 20000 n.isLt (by decide))
    refine congrArg (fun w : BitVec 32 => min w.toInt.toNat (20000 - 1)) ?_
    pointwise
    rw [hi, wrap_eq _ (by omega)]
theorem hPickBoxes_at (x : Vec Ideal S4x1024x7 .f32) (i : Vec Ideal S4x256x1 .i32) (b : Fin 4) (j : Fin 256) (k : Fin 7) (n : Fin 1024)
    (hi : i (ix3 b j 0) = BitVec.ofNat 32 n.val) : hPickBoxes x i (ix3 b j k) = x (ix3 b n k) := by
  unfold hPickBoxes
  pointwise
  rw [Finset.univ_unique, Finset.fold_singleton]
  rw [show (default : Fin 1) = 0 from rfl, hi, wrap_eq _ (by omega), in_range n.val 1023 (by omega) (by decide)]
  rw [gather_rows _ rfl rfl rfl rfl rfl rfl rfl x _ b j k n]
  · rfl
  · refine Eq.trans ?_ (clamp_eq n.val 1024 n.isLt (by decide))
    refine congrArg (fun w : BitVec 32 => min w.toInt.toNat (1024 - 1)) ?_
    pointwise
    rw [hi, wrap_eq _ (by omega)]
theorem hTakeLabels_at (x : Vec Ideal S4x20000 .i32) (i : Vec Ideal S4x1024 .i32) (b : Fin 4) (j : Fin 1024) (n : Fin 20000)
    (hi : i (ix2 b j) = BitVec.ofNat 32 n.val) : hTakeLabels x i (ix2 b j) = x (ix2 b n) := by
  unfold hTakeLabels
  pointwise
  rw [Finset.univ_unique, Finset.fold_singleton]
  rw [hi, wrap_eq _ (by omega), in_range n.val 19999 (by omega) (by decide)]
  rw [gather_ones _ rfl rfl rfl rfl rfl rfl rfl x _ b j n]
  · rfl
  · refine Eq.trans ?_ (clamp_eq n.val 20000 n.isLt (by decide))
    refine congrArg (fun w : BitVec 32 => min w.toInt.toNat (20000 - 1)) ?_
    pointwise
    rw [hi, wrap_eq _ (by omega)]
theorem hPickLabels_at (x : Vec Ideal S4x1024 .i32) (i : Vec Ideal S4x256 .i32) (b : Fin 4) (j : Fin 256) (n : Fin 1024)
    (hi : i (ix2 b j) = BitVec.ofNat 32 n.val) : hPickLabels x i (ix2 b j) = x (ix2 b n) := by
  unfold hPickLabels
  pointwise
  rw [Finset.univ_unique, Finset.fold_singleton]
  rw [hi, wrap_eq _ (by omega), in_range n.val 1023 (by omega) (by decide)]
  rw [gather_ones _ rfl rfl rfl rfl rfl rfl rfl x _ b j n]
  · rfl
  · refine Eq.trans ?_ (clamp_eq n.val 1024 n.isLt (by decide))
    refine congrArg (fun w : BitVec 32 => min w.toInt.toNat (1024 - 1)) ?_
    pointwise
    rw [hi, wrap_eq _ (by omega)]
end Cert.ReferenceIdeal.Pf
end
-- ==== Proof.RefLabel.lean ====
/- The class of each row, read at one place. -/
module

public import proofs.«01_k».proof.Proof.RefPoint
public import Idealize.ShloMosaic.Lib.Pointwise

@[expose] public section

set_option maxRecDepth 100000

noncomputable section

namespace Cert.ReferenceIdeal.Pf

open Cert.ReferenceIdeal Cert.ReferenceIdeal.Gen Cert.ReferenceIdeal.Value
open Idealize.ShloMosaic Idealize.ShloMosaic.TcCoe Idealize.ShloMosaic.StableHlo
open Idealize.ShloMosaic.Pointwise
open Cert.Nms

set_option backward.isDefEq.respectTransparency.types false

theorem row_flat (i : S4x20000x3.Idx) : (S4x20000x3.rowMajor i).val = ((i 0).val * 20000 + (i 1).val) * 3 + (i 2).val :=
  Shape.rowMajor_val_three i

/-- The three entries a place of the class reduction reads, in order. -/
theorem three_places (b : Fin 4) (n : Fin 20000) :
    (List.finRange S4x20000x3.numel).filter (fun q => reducesTo_S4x20000x3_S4x20000_d2.drop (S4x20000x3.rowMajor.symm q) = ix2 b n)
      = [S4x20000x3.rowMajor (ix3 b n 0), S4x20000x3.rowMajor (ix3 b n 1), S4x20000x3.rowMajor (ix3 b n 2)] := by
  have e : ∀ k : Fin 3, (S4x20000x3.rowMajor (ix3 b n k)).val = (b.val * 20000 + n.val) * 3 + k.val := fun k => row_flat _
  refine List.Perm.eq_of_pairwise (le := fun a c => a < c) (fun a c _ _ h h' => absurd h (not_lt.mpr h'.le)) ((List.pairwise_lt_finRange _).filter _) ?_ ?_
  · refine List.Pairwise.cons ?_ (List.Pairwise.cons ?_ (List.Pairwise.cons (by simp) List.Pairwise.nil))
    · intro q hq
      rcases List.mem_cons.mp hq with rfl | hq
      · exact Fin.lt_def.mpr (by rw [e, e]; simp)
      · obtain rfl := List.mem_singleton.mp hq
        exact Fin.lt_def.mpr (by rw [e, e]; simp)
    · intro q hq
      obtain rfl := List.mem_singleton.mp hq
      exact Fin.lt_def.mpr (by rw [e, e]; simp)
  · refine (List.perm_ext_iff_of_nodup ((List.nodup_finRange _).filter _) ?_).mpr ?_
    · have h01 : S4x20000x3.rowMajor (ix3 b n 0) ≠ S4x20000x3.rowMajor (ix3 b n 1) := fun h => by have := congrArg Fin.val h; rw [e, e] at this; simp at this
      have h02 : S4x20000x3.rowMajor (ix3 b n 0) ≠ S4x20000x3.rowMajor (ix3 b n 2) := fun h => by have := congrArg Fin.val h; rw [e, e] at this; simp at this
      have h12 : S4x20000x3.rowMajor (ix3 b n 1) ≠ S4x20000x3.rowMajor (ix3 b n 2) := fun h => by have := congrArg Fin.val h; rw [e, e] at this; simp at this
      refine List.nodup_cons.mpr ⟨?_, List.nodup_cons.mpr ⟨?_, List.nodup_singleton _⟩⟩
      · rw [List.mem_cons, List.mem_singleton]
        exact fun h => h.elim h01 h02
      · rw [List.mem_singleton]
        exact h12
    · intro q
      obtain ⟨i, rfl⟩ := S4x20000x3.rowMajor.surjective q
      rw [List.mem_filter, Equiv.symm_apply_apply]
      simp only [List.mem_finRange, true_and, decide_eq_true_eq, List.mem_cons, List.not_mem_nil, or_false, EmbeddingLike.apply_eq_iff_eq]
      have v0 : (reducesTo_S4x20000x3_S4x20000_d2.drop i 0 : ℕ) = i 0 := Shape.ReducesTo.drop_apply_val _ i 0
      have v1 : (reducesTo_S4x20000x3_S4x20000_d2.drop i 1 : ℕ) = i 1 := Shape.ReducesTo.drop_apply_val _ i 1
      constructor
      · intro h
        have h0 : i 0 = b := Fin.ext (v0.symm.trans (congrArg (fun y : S4x20000.Idx => (y 0).val) h))
        have h1 : i 1 = n := Fin.ext (v1.symm.trans (congrArg (fun y : S4x20000.Idx => (y 1).val) h))
        have hi : ∀ k : Fin 3, i 2 = k → i = ix3 b n k := fun k hk => by
          subst h0 h1 hk
          funext a
          fin_cases a <;> rfl
        have hc : ∀ k : Fin 3, k = 0 ∨ k = 1 ∨ k = 2 := by decide
        rcases hc (i 2) with h | h | h
        · exact Or.inl (hi 0 h)
        · exact Or.inr (Or.inl (hi 1 h))
        · exact Or.inr (Or.inr (hi 2 h))
      · intro h
        have h0 : i 0 = b := by rcases h with rfl | rfl | rfl <;> rfl
        have h1 : i 1 = n := by rcases h with rfl | rfl | rfl <;> rfl
        funext a
        refine Fin.ext ?_
        fin_cases a
        · exact v0.trans (congrArg Fin.val h0)
        · exact v1.trans (congrArg Fin.val h1)

/-- One step of the class choice, the later class having the larger number. -/
theorem choose_step (a c : EReal) (u v : BitVec 32) (h : IntOp.cmpi .slt u v = 1#1) :
    reducer_argmax_f32_i32 (F := Ideal) (a, u) (c, v) = if c ≤ a then (a, u) else (c, v) := by
  unfold reducer_argmax_f32_i32
  show ((Scalar.select (IntOp.ori (BitVec.ofBool (decide (c < a))) (BitVec.ofBool (decide (a ≠ a)))) a c, Scalar.select (IntOp.ori (IntOp.ori (BitVec.ofBool (decide (c < a))) (BitVec.ofBool (decide (a ≠ a)))) (IntOp.andi (BitVec.ofBool (decide (a = c))) (IntOp.cmpi .slt u v))) u v) : EReal × BitVec 32) = _
  rw [h]
  rcases lt_trichotomy c a with hl | rfl | hl
  · simp [hl, hl.le, hl.ne', IntOp.ori, IntOp.andi, Scalar.select]
  · simp [IntOp.ori, IntOp.andi, Scalar.select]
  · simp [hl, hl.not_ge, hl.not_gt, hl.ne, IntOp.ori, IntOp.andi, Scalar.select]
theorem choose_first (c : EReal) : reducer_argmax_f32_i32 (F := Ideal) ((⊥ : EReal), 0#32) (c, 0#32) = (c, 0#32) := by
  unfold reducer_argmax_f32_i32
  show ((Scalar.select (IntOp.ori (BitVec.ofBool (decide (c < ⊥))) (BitVec.ofBool (decide ((⊥ : EReal) ≠ ⊥)))) ⊥ c, Scalar.select (IntOp.ori (IntOp.ori (BitVec.ofBool (decide (c < ⊥))) (BitVec.ofBool (decide ((⊥ : EReal) ≠ ⊥)))) (IntOp.andi (BitVec.ofBool (decide (⊥ = c))) (IntOp.cmpi .slt 0#32 0#32))) 0#32 0#32) : EReal × BitVec 32) = _
  simp [IntOp.ori, IntOp.andi, Scalar.select]

theorem chosen_at (x : Vec Ideal S4x20000x3 .f32) (b : Fin 4) (n : Fin 20000) :
    (Host.argReduce (F := Ideal) (φ := .f32) reducer_argmax_f32_i32 x (iotaInDim S4x20000x3 32 2) (constant S_ .f32 0xFF800000#32) (constantI S_ 32 0#32) reducesTo_S4x20000x3_S4x20000_d2 h_S_ (ix2 b n)).2
      = if x (ix3 b n 1) ≤ x (ix3 b n 0) then (if x (ix3 b n 2) ≤ x (ix3 b n 0) then 0#32 else 2#32) else (if x (ix3 b n 2) ≤ x (ix3 b n 1) then 1#32 else 2#32) := by
  rw [Ideal.argReduce_eq_reduce2]
  unfold Host.reduce2
  rw [three_places]
  simp only [List.foldl_cons, List.foldl_nil, Equiv.symm_apply_apply]
  show (reducer_argmax_f32_i32 (F := Ideal) (reducer_argmax_f32_i32 (F := Ideal) (reducer_argmax_f32_i32 (F := Ideal) (Ideal.ofBits .f32 4286578688#32, 0#32) (x (ix3 b n 0), 0#32)) (x (ix3 b n 1), 1#32)) (x (ix3 b n 2), 2#32)).2 = _
  rw [low_eq, choose_first, choose_step (x (ix3 b n 0)) (x (ix3 b n 1)) 0#32 1#32 (by decide)]
  by_cases h1 : x (ix3 b n 1) ≤ x (ix3 b n 0)
  · rw [if_pos h1, if_pos h1, choose_step (x (ix3 b n 0)) (x (ix3 b n 2)) 0#32 2#32 (by decide)]
    split_ifs <;> rfl
  · rw [if_neg h1, if_neg h1, choose_step (x (ix3 b n 1)) (x (ix3 b n 2)) 1#32 2#32 (by decide)]
    split_ifs <;> rfl

theorem hLabels_at (x : Vec Ideal S4x20000x3 .f32) (b : Fin 4) (n : Fin 20000) : hLabels x (ix2 b n) = classOf (x (ix3 b n 0)) (x (ix3 b n 1)) (x (ix3 b n 2)) := by
  unfold hLabels
  refine (congrArg (fun w : BitVec 32 => IntOp.addi w 1#32) (chosen_at x b n)).trans ?_
  unfold classOf
  split_ifs <;> rfl
end Cert.ReferenceIdeal.Pf
end
-- ==== Proof.RefFinal.lean ====
/- The three results of the reference, read at one place. -/
module

public import proofs.«01_k».proof.Proof.RefTake
public import proofs.«01_k».proof.Proof.RefLabel
public import Idealize.ShloMosaic.Lib.Pointwise

@[expose] public section

set_option maxRecDepth 100000

noncomputable section

namespace Cert.ReferenceIdeal.Pf

open Cert.ReferenceIdeal Cert.ReferenceIdeal.Gen Cert.ReferenceIdeal.Value
open Idealize.ShloMosaic Idealize.ShloMosaic.TcCoe Idealize.ShloMosaic.StableHlo
open Idealize.ShloMosaic.Pointwise
open Cert.Nms

set_option backward.isDefEq.respectTransparency.types false

section
variable (x : Vec Ideal S4x20000x3 .f32) (y : Vec Ideal S4x20000x7 .f32) (b : Fin 4)

/-- One problem's scores. -/
def sR (n : Fin 20000) : EReal := scoreOf (x (ix3 b n 0)) (x (ix3 b n 1)) (x (ix3 b n 2))
/-- One problem's boxes. -/
def bR (n : Fin 20000) (k : Fin 7) : EReal := y (ix3 b n k)
/-- One problem's labels. -/
def lR (n : Fin 20000) : BitVec 32 := classOf (x (ix3 b n 0)) (x (ix3 b n 1)) (x (ix3 b n 2))

theorem sR_eq : rowX (hMasked x) b = sR x b := funext fun n => hMasked_at x b n
theorem first_value (j : Fin 1024) : (hFirst x).1 (ix2 b j) = candS (sR x b) j := by
  refine (top_value (by decide : 1024 ≤ 20000) (hMasked x) _ b j).trans ?_
  rw [sR_eq]
  exact hMasked_at x b _
theorem first_index (j : Fin 1024) : (hFirst x).2 (ix2 b j) = BitVec.ofNat 32 (firstRow (sR x b) j).val := by
  refine (top_index (by decide : 1024 ≤ 20000) (hMasked x) _ b j).trans ?_
  rw [sR_eq]
  rfl
theorem lift_at (T : Vec Ideal S4x1024 .i32) (j : Fin 1024) : broadcastInDim S4x1024x1 ![0, 1] bcast_S4x1024_S4x1024x1_0_1 T (ix3 b j 0) = T (ix2 b j) := by
  pointwise
theorem lift_at' (T : Vec Ideal S4x256 .i32) (j : Fin 256) : broadcastInDim S4x256x1 ![0, 1] bcast_S4x256_S4x256x1_0_1 T (ix3 b j 0) = T (ix2 b j) := by
  pointwise
theorem boxes_at (j : Fin 1024) (k : Fin 7) : hBoxes x y (ix3 b j k) = cand (sR x b) (bR y b) j k := by
  unfold hBoxes
  exact hTakeBoxes_at y _ b j k (firstRow (sR x b) j) ((lift_at b _ j).trans (first_index x b j))
theorem labels_at (j : Fin 1024) : hTakeLabels (hLabels x) (hFirst x).2 (ix2 b j) = lR x b (firstRow (sR x b) j) :=
  (hTakeLabels_at _ _ b j (firstRow (sR x b) j) (first_index x b j)).trans (hLabels_at x b _)

/-- The scores after suppression. -/
abbrev selX : Vec Ideal S4x1024 .f32 := hSel (hFirst x).1 (hKeep (hIou (hBoxes x y)) 1024)
theorem selX_eq : rowX (selX x y) b = selF (sR x b) (bR y b) := by
  funext j
  refine (hSel_at _ _ b j).trans ?_
  unfold selF
  refine congrArg₂ (fun g t => sel g t j) ?_ ?_
  · exact funext fun a => funext fun q => boxes_at x y b a q
  · exact funext fun a => first_value x b a
theorem top_sel (r : Fin 256) : (hTop (selX x y)).1 (ix2 b r) = selF (sR x b) (bR y b) (pickF (sR x b) (bR y b) r) := by
  refine (top_value (by decide : 256 ≤ 1024) (selX x y) _ b r).trans ?_
  rw [selX_eq]
  exact congrFun (selX_eq x y b) _
theorem top_row (r : Fin 256) : (hTop (selX x y)).2 (ix2 b r) = BitVec.ofNat 32 (pickF (sR x b) (bR y b) r).val := by
  refine (top_index (by decide : 256 ≤ 1024) (selX x y) _ b r).trans ?_
  rw [selX_eq]
  rfl

theorem end_box (r : Fin 256) (k : Fin 7) :
    hPickBoxes (hBoxes x y) (broadcastInDim S4x256x1 ![0, 1] bcast_S4x256_S4x256x1_0_1 (hTop (selX x y)).2) (ix3 b r k) = outBox (sR x b) (bR y b) r k :=
  (hPickBoxes_at _ _ b r k (pickF (sR x b) (bR y b) r) ((lift_at' b _ r).trans (top_row x y b r))).trans (boxes_at x y b _ k)
theorem keep_score (T : Vec Ideal S4x256 .f32) (r : Fin 256) :
    select (hPos T) T (broadcastInDim S4x256 ![] bcast_S_S4x256 (id (constant (F := Ideal) S_ .f32 0x00000000#32))) (ix2 b r) = if 0 < T (ix2 b r) then T (ix2 b r) else 0 := by
  unfold hPos
  simp only [id]
  pointwise
theorem keep_label (T : Vec Ideal S4x256 .f32) (L : Vec Ideal S4x256 .i32) (r : Fin 256) :
    select (hPos T) L (broadcastInDim S4x256 ![] bcast_S_S4x256 (id (constantI S_ 32 0#32))) (ix2 b r) = if 0 < T (ix2 b r) then L (ix2 b r) else 0#32 := by
  unfold hPos
  simp only [id]
  pointwise
theorem end_score (r : Fin 256) :
    select (hPos (hTop (selX x y)).1) (hTop (selX x y)).1 (broadcastInDim S4x256 ![] bcast_S_S4x256 (id (constant (F := Ideal) S_ .f32 0x00000000#32))) (ix2 b r) = outScore (sR x b) (bR y b) r := by
  refine (keep_score b _ r).trans ?_
  rw [top_sel]
  rfl
theorem end_label (r : Fin 256) :
    select (hPos (hTop (selX x y)).1) (hPickLabels (hTakeLabels (hLabels x) (hFirst x).2) (hTop (selX x y)).2) (broadcastInDim S4x256 ![] bcast_S_S4x256 (id (constantI S_ 32 0#32))) (ix2 b r)
      = outLabel (sR x b) (bR y b) (lR x b) r := by
  refine (keep_label b _ _ r).trans ?_
  rw [top_sel, hPickLabels_at _ _ b r (pickF (sR x b) (bR y b) r) (top_row x y b r), labels_at]
  rfl
end
end Cert.ReferenceIdeal.Pf
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.KernelMain
public import proofs.«01_k».proof.Proof.KernelIdealMain
public import proofs.«01_k».proof.Proof.RefRun
public import proofs.«01_k».proof.Proof.KernelIdealFinal
public import proofs.«01_k».proof.Proof.RefFinal
public import Idealize.ShloMosaic.Lib.Pointwise
public import Idealize.ShloMosaic.Adequacy
public import Idealize.ShloMosaic.Init

@[expose] public section

noncomputable section

namespace Cert.Proof

open Idealize.ShloMosaic Idealize.SL.Sem Cert.Kernel

theorem frame_kernel : Cert.quiescent_Kernel (hKernel := Cert.Kernel.Gen.facts) := fun m g _ =>
  (θ_run Cert.Kernel.defs _ _).mono (fun _ h => ⟨fun c => (h.1 c).2.2.2, h.2⟩) (Cert.Kernel.Pf.run_results m g)

theorem frame_kernelIdeal : Cert.quiescent_KernelIdeal (hKernelIdeal := Cert.KernelIdeal.Gen.facts) := fun m g _ =>
  (θ_run Cert.KernelIdeal.defs _ _).mono (fun _ h => ⟨fun c => (h.1 c).2.2.2, h.2⟩) (Cert.KernelIdeal.Pf.run_results m g)

theorem frame_referenceIdeal : Cert.quiescent_ReferenceIdeal (hReferenceIdeal := Cert.ReferenceIdeal.Gen.facts) := fun m g _ =>
  Cert.ReferenceIdeal.Pf.frame_ref m g

section
open Idealize.ShloMosaic.Pointwise Cert.Nms
open Cert.KernelIdeal.Pf (sM bM lM clsM boxM)
open Cert.ReferenceIdeal.Pf (sR bR lR rCls rBox)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))

include h0 in
theorem same_s (b : Fin 4) : sR (rCls m' c) b = sM m c b :=
  funext fun n => congrArg (fun x : Vec Ideal Cert.ReferenceIdeal.S4x20000x3 .f32 => scoreOf (x (ix3 b n 0)) (x (ix3 b n 1)) (x (ix3 b n 2))) h0
include h0 in
theorem same_l (b : Fin 4) : lR (rCls m' c) b = lM m c b :=
  funext fun n => congrArg (fun x : Vec Ideal Cert.ReferenceIdeal.S4x20000x3 .f32 => classOf (x (ix3 b n 0)) (x (ix3 b n 1)) (x (ix3 b n 2))) h0
include h1 in
theorem same_b (b : Fin 4) : bR (rBox m' c) b = bM m c b :=
  funext fun n => funext fun k => congrArg (fun x : Vec Ideal Cert.ReferenceIdeal.S4x20000x7 .f32 => x (ix3 b n k)) h1

/-- The three results as functions of the kernel's arguments. -/
def val0 : Vec Ideal Cert.KernelIdeal.S4x256x7 .f32 := fun y => outBox (sM m c (y 0)) (bM m c (y 0)) (y 1) (y 2)
@[inherit_doc val0]
def val1 : Vec Ideal Cert.KernelIdeal.S4x256 .f32 := fun y => outScore (sM m c (y 0)) (bM m c (y 0)) (y 1)
@[inherit_doc val0]
def val2 : Vec Ideal Cert.KernelIdeal.S4x256 .i32 := fun y => outLabel (sM m c (y 0)) (bM m c (y 0)) (lM m c (y 0)) (y 1)

include h0 h1 in
theorem ref_val0 (T : Vec Ideal Cert.ReferenceIdeal.S4x256x7 .f32) (hT : ∀ b r k, T (ix3 b r k) = outBox (sR (rCls m' c) b) (bR (rBox m' c) b) r k) : T = val0 m c := by
  funext y
  idx_vars y
  refine (hT y0 y1 y2).trans ?_
  rw [same_s m m' c h0, same_b m m' c h1]
  rfl
include h0 h1 in
theorem ref_val1 (T : Vec Ideal Cert.ReferenceIdeal.S4x256 .f32) (hT : ∀ b r, T (ix2 b r) = outScore (sR (rCls m' c) b) (bR (rBox m' c) b) r) : T = val1 m c := by
  funext y
  idx_vars y
  refine (hT y0 y1).trans ?_
  rw [same_s m m' c h0, same_b m m' c h1]
  rfl
include h0 h1 in
theorem ref_val2 (T : Vec Ideal Cert.ReferenceIdeal.S4x256 .i32) (hT : ∀ b r, T (ix2 b r) = outLabel (sR (rCls m' c) b) (bR (rBox m' c) b) (lR (rCls m' c) b) r) : T = val2 m c := by
  funext y
  idx_vars y
  refine (hT y0 y1).trans ?_
  rw [same_s m m' c h0, same_b m m' c h1, same_l m m' c h0]
  rfl
end

theorem same_values : Cert.algebraic_KernelIdeal_ReferenceIdeal (hKernelIdeal := Cert.KernelIdeal.Gen.facts) (hReferenceIdeal := Cert.ReferenceIdeal.Gen.facts) := by
  intro m g m' g' _ hargs
  refine ⟨fun c => val0 m c, fun c => val1 m c, fun c => val2 m c, ?_, ?_⟩
  · refine (θ_run Cert.KernelIdeal.defs _ _).mono (fun r h c => ?_) (Cert.KernelIdeal.Pf.run_results m g)
    obtain ⟨a, b, d, e⟩ := h.1 c
    exact ⟨a.trans (Cert.KernelIdeal.Pf.end_box m c), b.trans (Cert.KernelIdeal.Pf.end_score m c), d.trans (Cert.KernelIdeal.Pf.end_label m c), e⟩
  · refine (θ_run Cert.ReferenceIdeal.defs _ _).mono (fun r h c => ?_) (Cert.ReferenceIdeal.Pf.ref_results m' g')
    obtain ⟨a, b, d, e⟩ := h.1 c
    obtain ⟨h0, h1⟩ := hargs c
    exact ⟨a.trans (ref_val0 m m' c h0 h1 _ fun b r k => Cert.ReferenceIdeal.Pf.end_box _ _ b r k),
      b.trans (ref_val1 m m' c h0 h1 _ fun b r => Cert.ReferenceIdeal.Pf.end_score _ _ b r),
      d.trans (ref_val2 m m' c h0 h1 _ fun b r => Cert.ReferenceIdeal.Pf.end_label _ _ b r), e⟩

theorem claim : Cert.Claim := ⟨Cert.Kernel.Gen.facts, Cert.KernelIdeal.Gen.facts, Cert.ReferenceIdeal.Gen.facts,
  frame_kernel, frame_kernelIdeal, frame_referenceIdeal, trivial, same_values⟩

end Cert.Proof

end
